-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_not_lowest_KernelIdeal [hPre_x_not_lowest_KernelIdeal : Cert.Pre_x_not_lowest_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_not_lowest_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_not_lowest_ReferenceIdeal [hPre_x_not_lowest_ReferenceIdeal : Cert.Pre_x_not_lowest_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_not_lowest_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_x_not_lowest_KernelIdeal [hKernelIdeal : Cert.KernelIdeal.Facts] [hPre_x_not_lowest_KernelIdeal : Cert.Pre_x_not_lowest_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_not_lowest_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_x_not_lowest_ReferenceIdeal [hReferenceIdeal : Cert.ReferenceIdeal.Facts] [hPre_x_not_lowest_ReferenceIdeal : Cert.Pre_x_not_lowest_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_not_lowest_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_x_not_lowest_KernelIdeal [hKernelIdeal : Cert.KernelIdeal.Facts] [hReferenceIdeal : Cert.ReferenceIdeal.Facts] [hPre_x_not_lowest_KernelIdeal : Cert.Pre_x_not_lowest_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_not_lowest_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_x_not_lowest_KernelIdeal : Cert.Pre_x_not_lowest_KernelIdeal.Facts) (hPre_x_not_lowest_ReferenceIdeal : Cert.Pre_x_not_lowest_ReferenceIdeal.Facts),
    quiescent_Kernel (hKernel := hKernel)
    ∧ quiescent_KernelIdeal (hKernelIdeal := hKernelIdeal)
    ∧ quiescent_KernelIdeal_pre_x_not_lowest_KernelIdeal (hKernelIdeal := hKernelIdeal) (hPre_x_not_lowest_KernelIdeal := hPre_x_not_lowest_KernelIdeal)
    ∧ quiescent_ReferenceIdeal (hReferenceIdeal := hReferenceIdeal)
    ∧ quiescent_ReferenceIdeal_pre_x_not_lowest_ReferenceIdeal (hReferenceIdeal := hReferenceIdeal) (hPre_x_not_lowest_ReferenceIdeal := hPre_x_not_lowest_ReferenceIdeal)
    ∧ preserves_Kernel_KernelIdeal
    ∧ algebraic_KernelIdeal_ReferenceIdeal_pre_x_not_lowest_KernelIdeal (hKernelIdeal := hKernelIdeal) (hReferenceIdeal := hReferenceIdeal) (hPre_x_not_lowest_KernelIdeal := hPre_x_not_lowest_KernelIdeal)
-- ==== Pre_x_not_lowest_KernelIdeal.lean ====
abbrev S4096x128 : Shape := ⟨2, ![4096, 128]⟩
abbrev S4096x2048 : Shape := ⟨2, ![4096, 2048]⟩
abbrev S1 : Shape := ⟨1, ![1]⟩
abbrev S_ : Shape := ⟨0, ![]⟩

class Facts : Prop where
  bcast_S_S4096x128 : S_.BroadcastsInDim S4096x128 (![] : Fin 0 → Fin S4096x128.rank)

variable [Facts]

def fn {F : FTy → Type} [FloatOps F] (main_arg0 : IVec S4096x128 8) (main_arg1 : IVec S4096x2048 8) (main_arg2 : FVec F S1 .f32) (main_arg3 : FVec F S1 .f32) : IVec S4096x128 1 :=
  let main_c : IVec S_ 8 := constantI S_ 8 128#8
  let main_v0 : IVec S4096x128 8 := broadcastInDim S4096x128 ![] bcast_S_S4096x128 main_c
  let main_v1 : IVec S4096x128 1 := cmpi .ne main_arg0 main_v0
  main_v1
-- ==== Pre_x_not_lowest_ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  bcast_S_S4096x4096 : S_.BroadcastsInDim S4096x4096 (![] : Fin 0 → Fin S4096x4096.rank)

variable [Facts]

def fn {F : FTy → Type} [FloatOps F] (main_arg0 : IVec S4096x4096 8) (main_arg1 : IVec S4096x2048 8) (main_arg2 : FVec F S1 .f32) (main_arg3 : FVec F S1 .f32) : IVec S4096x4096 1 :=
  let main_c : IVec S_ 8 := constantI S_ 8 128#8
  let main_v0 : IVec S4096x4096 8 := broadcastInDim S4096x4096 ![] bcast_S_S4096x4096 main_c
  let main_v1 : IVec S4096x4096 1 := cmpi .ne main_arg0 main_v0
  main_v1
-- ==== Kernel.lean ====
abbrev S4096x128 : Shape := ⟨2, ![4096, 128]⟩
abbrev S4096x2048 : Shape := ⟨2, ![4096, 2048]⟩
abbrev S1 : Shape := ⟨1, ![1]⟩
abbrev S128x2048 : Shape := ⟨2, ![128, 2048]⟩
abbrev S128x4096 : Shape := ⟨2, ![128, 4096]⟩
abbrev S32 : Shape := ⟨1, ![32]⟩
abbrev S_ : Shape := ⟨0, ![]⟩
abbrev S128x128 : Shape := ⟨2, ![128, 128]⟩
abbrev S128x1024 : Shape := ⟨2, ![128, 1024]⟩
abbrev S1024x2048 : Shape := ⟨2, ![1024, 2048]⟩

abbrev nBuf : Space → Nat
  | .hbm => 5
  | .vmem => 4
  | .smem => 2
  | _ => 0

abbrev bufTy : (tb : Table) → Fin (tcTables nBuf tb) → BufTy
  | .hbm, ⟨0, _⟩ => ⟨S4096x128, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S128x2048, .f32⟩
  | .local _ .vmem, ⟨0, _⟩ => ⟨S4096x128, .i8⟩
  | .local _ .vmem, ⟨1, _⟩ => ⟨S4096x2048, .i8⟩
  | .local _ .vmem, ⟨2, _⟩ => ⟨S128x2048, .f32⟩
  | .local _ .vmem, ⟨3, _⟩ => ⟨S128x4096, .i8⟩
  | .local _ .smem, ⟨0, _⟩ => ⟨S1, .f32⟩
  | .local _ .smem, ⟨1, _⟩ => ⟨S1, .f32⟩
  | _, _ => ⟨S4096x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 33 69 bufScoped semScoped dmaSemScoped tileCredit tileCredit_eq_zero tileCredit_pos).withBarriers [(0, 32)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 32

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v4 : BitVec 32 := Scalar.addi v2 c31_i32
  let c32_i32_2 : BitVec 32 := 32#32
  let v5 : BitVec 32 := Scalar.remsi v4 c32_i32_2
  let c1_i32_5 : BitVec 32 := 1#32
  let v8 : BitVec 32 := Scalar.muli v5 c1_i32_5
  let v9 : BitVec 32 := Scalar.addi c0_i32 v8
  v9.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v10 : BitVec 32 := Scalar.addi v2 c1_i32_6
  let c32_i32_7 : BitVec 32 := 32#32
  let v11 : BitVec 32 := Scalar.remsi v10 c32_i32_7
  let c1_i32_10 : BitVec 32 := 1#32
  let v14 : BitVec 32 := Scalar.muli v11 c1_i32_10
  let v15 : BitVec 32 := Scalar.addi c0_i32_11 v14
  v15.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v16 : BitVec 32 := Scalar.addi v2 c30_i32
  let c32_i32_12 : BitVec 32 := 32#32
  let v17 : BitVec 32 := Scalar.remsi v16 c32_i32_12
  let c1_i32_14 : BitVec 32 := 1#32
  let v20 : BitVec 32 := Scalar.muli v17 c1_i32_14
  let v21 : BitVec 32 := Scalar.addi c0_i32_15 v20
  v21.toNat
def k0_dev4 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_16 : BitVec 32 := 2#32
  let v22 : BitVec 32 := Scalar.addi v2 c2_i32_16
  let c32_i32_17 : BitVec 32 := 32#32
  let v23 : BitVec 32 := Scalar.remsi v22 c32_i32_17
  let c1_i32_20 : BitVec 32 := 1#32
  let v26 : BitVec 32 := Scalar.muli v23 c1_i32_20
  let v27 : BitVec 32 := Scalar.addi c0_i32_21 v26
  v27.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v28 : BitVec 32 := Scalar.addi v2 c29_i32
  let c32_i32_22 : BitVec 32 := 32#32
  let v29 : BitVec 32 := Scalar.remsi v28 c32_i32_22
  let c1_i32_24 : BitVec 32 := 1#32
  let v32 : BitVec 32 := Scalar.muli v29 c1_i32_24
  let v33 : BitVec 32 := Scalar.addi c0_i32_25 v32
  v33.toNat
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_26 : BitVec 32 := 3#32
  let v34 : BitVec 32 := Scalar.addi v2 c3_i32_26
  let c32_i32_27 : BitVec 32 := 32#32
  let v35 : BitVec 32 := Scalar.remsi v34 c32_i32_27
  let c1_i32_30 : BitVec 32 := 1#32
  let v38 : BitVec 32 := Scalar.muli v35 c1_i32_30
  let v39 : BitVec 32 := Scalar.addi c0_i32_31 v38
  v39.toNat
def k0_dev7 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v40 : BitVec 32 := Scalar.addi v2 c28_i32
  let c32_i32_32 : BitVec 32 := 32#32
  let v41 : BitVec 32 := Scalar.remsi v40 c32_i32_32
  let c1_i32_34 : BitVec 32 := 1#32
  let v44 : BitVec 32 := Scalar.muli v41 c1_i32_34
  let v45 : BitVec 32 := Scalar.addi c0_i32_35 v44
  v45.toNat
def k0_dev8 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_36 : BitVec 32 := 4#32
  let v46 : BitVec 32 := Scalar.addi v2 c4_i32_36
  let c32_i32_37 : BitVec 32 := 32#32
  let v47 : BitVec 32 := Scalar.remsi v46 c32_i32_37
  let c1_i32_40 : BitVec 32 := 1#32
  let v50 : BitVec 32 := Scalar.muli v47 c1_i32_40
  let v51 : BitVec 32 := Scalar.addi c0_i32_41 v50
  v51.toNat
def k0_dev9 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v52 : BitVec 32 := Scalar.addi v2 c27_i32
  let c32_i32_42 : BitVec 32 := 32#32
  let v53 : BitVec 32 := Scalar.remsi v52 c32_i32_42
  let c1_i32_44 : BitVec 32 := 1#32
  let v56 : BitVec 32 := Scalar.muli v53 c1_i32_44
  let v57 : BitVec 32 := Scalar.addi c0_i32_45 v56
  v57.toNat
def k0_dev10 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_46 : BitVec 32 := 5#32
  let v58 : BitVec 32 := Scalar.addi v2 c5_i32_46
  let c32_i32_47 : BitVec 32 := 32#32
  let v59 : BitVec 32 := Scalar.remsi v58 c32_i32_47
  let c1_i32_50 : BitVec 32 := 1#32
  let v62 : BitVec 32 := Scalar.muli v59 c1_i32_50
  let v63 : BitVec 32 := Scalar.addi c0_i32_51 v62
  v63.toNat
def k0_dev11 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v64 : BitVec 32 := Scalar.addi v2 c26_i32
  let c32_i32_52 : BitVec 32 := 32#32
  let v65 : BitVec 32 := Scalar.remsi v64 c32_i32_52
  let c1_i32_54 : BitVec 32 := 1#32
  let v68 : BitVec 32 := Scalar.muli v65 c1_i32_54
  let v69 : BitVec 32 := Scalar.addi c0_i32_55 v68
  v69.toNat
def k0_dev12 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_56 : BitVec 32 := 6#32
  let v70 : BitVec 32 := Scalar.addi v2 c6_i32_56
  let c32_i32_57 : BitVec 32 := 32#32
  let v71 : BitVec 32 := Scalar.remsi v70 c32_i32_57
  let c1_i32_60 : BitVec 32 := 1#32
  let v74 : BitVec 32 := Scalar.muli v71 c1_i32_60
  let v75 : BitVec 32 := Scalar.addi c0_i32_61 v74
  v75.toNat
def k0_dev13 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v76 : BitVec 32 := Scalar.addi v2 c25_i32
  let c32_i32_62 : BitVec 32 := 32#32
  let v77 : BitVec 32 := Scalar.remsi v76 c32_i32_62
  let c1_i32_64 : BitVec 32 := 1#32
  let v80 : BitVec 32 := Scalar.muli v77 c1_i32_64
  let v81 : BitVec 32 := Scalar.addi c0_i32_65 v80
  v81.toNat
def k0_dev14 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_66 : BitVec 32 := 7#32
  let v82 : BitVec 32 := Scalar.addi v2 c7_i32_66
  let c32_i32_67 : BitVec 32 := 32#32
  let v83 : BitVec 32 := Scalar.remsi v82 c32_i32_67
  let c1_i32_70 : BitVec 32 := 1#32
  let v86 : BitVec 32 := Scalar.muli v83 c1_i32_70
  let v87 : BitVec 32 := Scalar.addi c0_i32_71 v86
  v87.toNat
def k0_dev15 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v88 : BitVec 32 := Scalar.addi v2 c24_i32
  let c32_i32_72 : BitVec 32 := 32#32
  let v89 : BitVec 32 := Scalar.remsi v88 c32_i32_72
  let c1_i32_74 : BitVec 32 := 1#32
  let v92 : BitVec 32 := Scalar.muli v89 c1_i32_74
  let v93 : BitVec 32 := Scalar.addi c0_i32_75 v92
  v93.toNat
def k0_dev16 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_76 : BitVec 32 := 8#32
  let v94 : BitVec 32 := Scalar.addi v2 c8_i32_76
  let c32_i32_77 : BitVec 32 := 32#32
  let v95 : BitVec 32 := Scalar.remsi v94 c32_i32_77
  let c1_i32_80 : BitVec 32 := 1#32
  let v98 : BitVec 32 := Scalar.muli v95 c1_i32_80
  let v99 : BitVec 32 := Scalar.addi c0_i32_81 v98
  v99.toNat
def k0_dev17 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v100 : BitVec 32 := Scalar.addi v2 c23_i32
  let c32_i32_82 : BitVec 32 := 32#32
  let v101 : BitVec 32 := Scalar.remsi v100 c32_i32_82
  let c1_i32_84 : BitVec 32 := 1#32
  let v104 : BitVec 32 := Scalar.muli v101 c1_i32_84
  let v105 : BitVec 32 := Scalar.addi c0_i32_85 v104
  v105.toNat
def k0_dev18 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_86 : BitVec 32 := 9#32
  let v106 : BitVec 32 := Scalar.addi v2 c9_i32_86
  let c32_i32_87 : BitVec 32 := 32#32
  let v107 : BitVec 32 := Scalar.remsi v106 c32_i32_87
  let c1_i32_90 : BitVec 32 := 1#32
  let v110 : BitVec 32 := Scalar.muli v107 c1_i32_90
  let v111 : BitVec 32 := Scalar.addi c0_i32_91 v110
  v111.toNat
def k0_dev19 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v112 : BitVec 32 := Scalar.addi v2 c22_i32
  let c32_i32_92 : BitVec 32 := 32#32
  let v113 : BitVec 32 := Scalar.remsi v112 c32_i32_92
  let c1_i32_94 : BitVec 32 := 1#32
  let v116 : BitVec 32 := Scalar.muli v113 c1_i32_94
  let v117 : BitVec 32 := Scalar.addi c0_i32_95 v116
  v117.toNat
def k0_dev20 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_96 : BitVec 32 := 10#32
  let v118 : BitVec 32 := Scalar.addi v2 c10_i32_96
  let c32_i32_97 : BitVec 32 := 32#32
  let v119 : BitVec 32 := Scalar.remsi v118 c32_i32_97
  let c1_i32_100 : BitVec 32 := 1#32
  let v122 : BitVec 32 := Scalar.muli v119 c1_i32_100
  let v123 : BitVec 32 := Scalar.addi c0_i32_101 v122
  v123.toNat
def k0_dev21 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v124 : BitVec 32 := Scalar.addi v2 c21_i32
  let c32_i32_102 : BitVec 32 := 32#32
  let v125 : BitVec 32 := Scalar.remsi v124 c32_i32_102
  let c1_i32_104 : BitVec 32 := 1#32
  let v128 : BitVec 32 := Scalar.muli v125 c1_i32_104
  let v129 : BitVec 32 := Scalar.addi c0_i32_105 v128
  v129.toNat
def k0_dev22 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_106 : BitVec 32 := 11#32
  let v130 : BitVec 32 := Scalar.addi v2 c11_i32_106
  let c32_i32_107 : BitVec 32 := 32#32
  let v131 : BitVec 32 := Scalar.remsi v130 c32_i32_107
  let c1_i32_110 : BitVec 32 := 1#32
  let v134 : BitVec 32 := Scalar.muli v131 c1_i32_110
  let v135 : BitVec 32 := Scalar.addi c0_i32_111 v134
  v135.toNat
def k0_dev23 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v136 : BitVec 32 := Scalar.addi v2 c20_i32
  let c32_i32_112 : BitVec 32 := 32#32
  let v137 : BitVec 32 := Scalar.remsi v136 c32_i32_112
  let c1_i32_114 : BitVec 32 := 1#32
  let v140 : BitVec 32 := Scalar.muli v137 c1_i32_114
  let v141 : BitVec 32 := Scalar.addi c0_i32_115 v140
  v141.toNat
def k0_dev24 (d0 : Dev nD) : Nat :=
  let c0_i32_121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_116 : BitVec 32 := 12#32
  let v142 : BitVec 32 := Scalar.addi v2 c12_i32_116
  let c32_i32_117 : BitVec 32 := 32#32
  let v143 : BitVec 32 := Scalar.remsi v142 c32_i32_117
  let c1_i32_120 : BitVec 32 := 1#32
  let v146 : BitVec 32 := Scalar.muli v143 c1_i32_120
  let v147 : BitVec 32 := Scalar.addi c0_i32_121 v146
  v147.toNat
def k0_dev25 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v148 : BitVec 32 := Scalar.addi v2 c19_i32
  let c32_i32_122 : BitVec 32 := 32#32
  let v149 : BitVec 32 := Scalar.remsi v148 c32_i32_122
  let c1_i32_124 : BitVec 32 := 1#32
  let v152 : BitVec 32 := Scalar.muli v149 c1_i32_124
  let v153 : BitVec 32 := Scalar.addi c0_i32_125 v152
  v153.toNat
def k0_dev26 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_126 : BitVec 32 := 13#32
  let v154 : BitVec 32 := Scalar.addi v2 c13_i32_126
  let c32_i32_127 : BitVec 32 := 32#32
  let v155 : BitVec 32 := Scalar.remsi v154 c32_i32_127
  let c1_i32_130 : BitVec 32 := 1#32
  let v158 : BitVec 32 := Scalar.muli v155 c1_i32_130
  let v159 : BitVec 32 := Scalar.addi c0_i32_131 v158
  v159.toNat
def k0_dev27 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v160 : BitVec 32 := Scalar.addi v2 c18_i32
  let c32_i32_132 : BitVec 32 := 32#32
  let v161 : BitVec 32 := Scalar.remsi v160 c32_i32_132
  let c1_i32_134 : BitVec 32 := 1#32
  let v164 : BitVec 32 := Scalar.muli v161 c1_i32_134
  let v165 : BitVec 32 := Scalar.addi c0_i32_135 v164
  v165.toNat
def k0_dev28 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_136 : BitVec 32 := 14#32
  let v166 : BitVec 32 := Scalar.addi v2 c14_i32_136
  let c32_i32_137 : BitVec 32 := 32#32
  let v167 : BitVec 32 := Scalar.remsi v166 c32_i32_137
  let c1_i32_140 : BitVec 32 := 1#32
  let v170 : BitVec 32 := Scalar.muli v167 c1_i32_140
  let v171 : BitVec 32 := Scalar.addi c0_i32_141 v170
  v171.toNat
def k0_dev29 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v172 : BitVec 32 := Scalar.addi v2 c17_i32
  let c32_i32_142 : BitVec 32 := 32#32
  let v173 : BitVec 32 := Scalar.remsi v172 c32_i32_142
  let c1_i32_144 : BitVec 32 := 1#32
  let v176 : BitVec 32 := Scalar.muli v173 c1_i32_144
  let v177 : BitVec 32 := Scalar.addi c0_i32_145 v176
  v177.toNat
def k0_dev30 (d0 : Dev nD) : Nat :=
  let c0_i32_151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_146 : BitVec 32 := 15#32
  let v178 : BitVec 32 := Scalar.addi v2 c15_i32_146
  let c32_i32_147 : BitVec 32 := 32#32
  let v179 : BitVec 32 := Scalar.remsi v178 c32_i32_147
  let c1_i32_150 : BitVec 32 := 1#32
  let v182 : BitVec 32 := Scalar.muli v179 c1_i32_150
  let v183 : BitVec 32 := Scalar.addi c0_i32_151 v182
  v183.toNat
def k0_dev31 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v184 : BitVec 32 := Scalar.addi v2 c16_i32
  let c32_i32_152 : BitVec 32 := 32#32
  let v185 : BitVec 32 := Scalar.remsi v184 c32_i32_152
  let c1_i32_155 : BitVec 32 := 1#32
  let v188 : BitVec 32 := Scalar.muli v185 c1_i32_155
  let v189 : BitVec 32 := Scalar.addi c0_i32_156 v188
  v189.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v190 : BitVec 32 := Scalar.muli v2 c128_i32
  let v191 : Index := Scalar.indexCast v190
  let c0 : Index := 0#32
  ![v191.toNat, 0]
def k0_off2 (d0 : Dev nD) : Fin 2 → Nat :=
  let c0_158 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_157 : BitVec 32 := 128#32
  let v194 : BitVec 32 := Scalar.muli v2 c128_i32_157
  let v195 : Index := Scalar.indexCast v194
  ![0, v195.toNat]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 2 → Nat :=
  let c0_i32_169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_165 : BitVec 32 := 128#32
  let v204 : BitVec 32 := Scalar.muli v2 c128_i32_165
  ![0, v204.toNat]
def k0_off5 (d0 : Dev nD) (c1_i32_159 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v199 : BitVec 32 := Scalar.addi v2 c1_i32_159
  let c32_i32_160 : BitVec 32 := 32#32
  let v200 : BitVec 32 := Scalar.remsi v199 c32_i32_160
  let c128_i32_164 : BitVec 32 := 128#32
  let v203 : BitVec 32 := Scalar.muli v200 c128_i32_164
  let c0_i32_170 : BitVec 32 := 0#32
  ![v203.toNat, 0]
def k0_dev32 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_159 : BitVec 32 := 1#32
  let v199 : BitVec 32 := Scalar.addi v2 c1_i32_159
  let c32_i32_160 : BitVec 32 := 32#32
  let v200 : BitVec 32 := Scalar.remsi v199 c32_i32_160
  let c1_i32_167 : BitVec 32 := 1#32
  let v205 : BitVec 32 := Scalar.muli v200 c1_i32_167
  let v206 : BitVec 32 := Scalar.addi c0_i32_168 v205
  v206.toNat
def k0_dev33 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_171 : BitVec 32 := 31#32
  let v213 : BitVec 32 := Scalar.addi v2 c31_i32_171
  let c32_i32_172 : BitVec 32 := 32#32
  let v214 : BitVec 32 := Scalar.remsi v213 c32_i32_172
  let c1_i32_179 : BitVec 32 := 1#32
  let v219 : BitVec 32 := Scalar.muli v214 c1_i32_179
  let v220 : BitVec 32 := Scalar.addi c0_i32_180 v219
  v220.toNat
def k0_dev34 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_183 : BitVec 32 := 2#32
  let v227 : BitVec 32 := Scalar.addi v2 c2_i32_183
  let c32_i32_184 : BitVec 32 := 32#32
  let v228 : BitVec 32 := Scalar.remsi v227 c32_i32_184
  let c1_i32_191 : BitVec 32 := 1#32
  let v233 : BitVec 32 := Scalar.muli v228 c1_i32_191
  let v234 : BitVec 32 := Scalar.addi c0_i32_192 v233
  v234.toNat
def k0_dev35 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_195 : BitVec 32 := 30#32
  let v241 : BitVec 32 := Scalar.addi v2 c30_i32_195
  let c32_i32_196 : BitVec 32 := 32#32
  let v242 : BitVec 32 := Scalar.remsi v241 c32_i32_196
  let c1_i32_203 : BitVec 32 := 1#32
  let v247 : BitVec 32 := Scalar.muli v242 c1_i32_203
  let v248 : BitVec 32 := Scalar.addi c0_i32_204 v247
  v248.toNat
def k0_dev36 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_207 : BitVec 32 := 3#32
  let v255 : BitVec 32 := Scalar.addi v2 c3_i32_207
  let c32_i32_208 : BitVec 32 := 32#32
  let v256 : BitVec 32 := Scalar.remsi v255 c32_i32_208
  let c1_i32_215 : BitVec 32 := 1#32
  let v261 : BitVec 32 := Scalar.muli v256 c1_i32_215
  let v262 : BitVec 32 := Scalar.addi c0_i32_216 v261
  v262.toNat
def k0_dev37 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_219 : BitVec 32 := 29#32
  let v269 : BitVec 32 := Scalar.addi v2 c29_i32_219
  let c32_i32_220 : BitVec 32 := 32#32
  let v270 : BitVec 32 := Scalar.remsi v269 c32_i32_220
  let c1_i32_227 : BitVec 32 := 1#32
  let v275 : BitVec 32 := Scalar.muli v270 c1_i32_227
  let v276 : BitVec 32 := Scalar.addi c0_i32_228 v275
  v276.toNat
def k0_dev38 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_231 : BitVec 32 := 4#32
  let v283 : BitVec 32 := Scalar.addi v2 c4_i32_231
  let c32_i32_232 : BitVec 32 := 32#32
  let v284 : BitVec 32 := Scalar.remsi v283 c32_i32_232
  let c1_i32_239 : BitVec 32 := 1#32
  let v289 : BitVec 32 := Scalar.muli v284 c1_i32_239
  let v290 : BitVec 32 := Scalar.addi c0_i32_240 v289
  v290.toNat
def k0_dev39 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_243 : BitVec 32 := 28#32
  let v297 : BitVec 32 := Scalar.addi v2 c28_i32_243
  let c32_i32_244 : BitVec 32 := 32#32
  let v298 : BitVec 32 := Scalar.remsi v297 c32_i32_244
  let c1_i32_251 : BitVec 32 := 1#32
  let v303 : BitVec 32 := Scalar.muli v298 c1_i32_251
  let v304 : BitVec 32 := Scalar.addi c0_i32_252 v303
  v304.toNat
def k0_dev40 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_255 : BitVec 32 := 5#32
  let v311 : BitVec 32 := Scalar.addi v2 c5_i32_255
  let c32_i32_256 : BitVec 32 := 32#32
  let v312 : BitVec 32 := Scalar.remsi v311 c32_i32_256
  let c1_i32_263 : BitVec 32 := 1#32
  let v317 : BitVec 32 := Scalar.muli v312 c1_i32_263
  let v318 : BitVec 32 := Scalar.addi c0_i32_264 v317
  v318.toNat
def k0_dev41 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_267 : BitVec 32 := 27#32
  let v325 : BitVec 32 := Scalar.addi v2 c27_i32_267
  let c32_i32_268 : BitVec 32 := 32#32
  let v326 : BitVec 32 := Scalar.remsi v325 c32_i32_268
  let c1_i32_275 : BitVec 32 := 1#32
  let v331 : BitVec 32 := Scalar.muli v326 c1_i32_275
  let v332 : BitVec 32 := Scalar.addi c0_i32_276 v331
  v332.toNat
def k0_dev42 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_279 : BitVec 32 := 6#32
  let v339 : BitVec 32 := Scalar.addi v2 c6_i32_279
  let c32_i32_280 : BitVec 32 := 32#32
  let v340 : BitVec 32 := Scalar.remsi v339 c32_i32_280
  let c1_i32_287 : BitVec 32 := 1#32
  let v345 : BitVec 32 := Scalar.muli v340 c1_i32_287
  let v346 : BitVec 32 := Scalar.addi c0_i32_288 v345
  v346.toNat
def k0_dev43 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_291 : BitVec 32 := 26#32
  let v353 : BitVec 32 := Scalar.addi v2 c26_i32_291
  let c32_i32_292 : BitVec 32 := 32#32
  let v354 : BitVec 32 := Scalar.remsi v353 c32_i32_292
  let c1_i32_299 : BitVec 32 := 1#32
  let v359 : BitVec 32 := Scalar.muli v354 c1_i32_299
  let v360 : BitVec 32 := Scalar.addi c0_i32_300 v359
  v360.toNat
def k0_dev44 (d0 : Dev nD) : Nat :=
  let c0_i32_312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_303 : BitVec 32 := 7#32
  let v367 : BitVec 32 := Scalar.addi v2 c7_i32_303
  let c32_i32_304 : BitVec 32 := 32#32
  let v368 : BitVec 32 := Scalar.remsi v367 c32_i32_304
  let c1_i32_311 : BitVec 32 := 1#32
  let v373 : BitVec 32 := Scalar.muli v368 c1_i32_311
  let v374 : BitVec 32 := Scalar.addi c0_i32_312 v373
  v374.toNat
def k0_dev45 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_315 : BitVec 32 := 25#32
  let v381 : BitVec 32 := Scalar.addi v2 c25_i32_315
  let c32_i32_316 : BitVec 32 := 32#32
  let v382 : BitVec 32 := Scalar.remsi v381 c32_i32_316
  let c1_i32_323 : BitVec 32 := 1#32
  let v387 : BitVec 32 := Scalar.muli v382 c1_i32_323
  let v388 : BitVec 32 := Scalar.addi c0_i32_324 v387
  v388.toNat
def k0_dev46 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_327 : BitVec 32 := 8#32
  let v395 : BitVec 32 := Scalar.addi v2 c8_i32_327
  let c32_i32_328 : BitVec 32 := 32#32
  let v396 : BitVec 32 := Scalar.remsi v395 c32_i32_328
  let c1_i32_335 : BitVec 32 := 1#32
  let v401 : BitVec 32 := Scalar.muli v396 c1_i32_335
  let v402 : BitVec 32 := Scalar.addi c0_i32_336 v401
  v402.toNat
def k0_dev47 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_339 : BitVec 32 := 24#32
  let v409 : BitVec 32 := Scalar.addi v2 c24_i32_339
  let c32_i32_340 : BitVec 32 := 32#32
  let v410 : BitVec 32 := Scalar.remsi v409 c32_i32_340
  let c1_i32_347 : BitVec 32 := 1#32
  let v415 : BitVec 32 := Scalar.muli v410 c1_i32_347
  let v416 : BitVec 32 := Scalar.addi c0_i32_348 v415
  v416.toNat
def k0_dev48 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_351 : BitVec 32 := 9#32
  let v423 : BitVec 32 := Scalar.addi v2 c9_i32_351
  let c32_i32_352 : BitVec 32 := 32#32
  let v424 : BitVec 32 := Scalar.remsi v423 c32_i32_352
  let c1_i32_359 : BitVec 32 := 1#32
  let v429 : BitVec 32 := Scalar.muli v424 c1_i32_359
  let v430 : BitVec 32 := Scalar.addi c0_i32_360 v429
  v430.toNat
def k0_dev49 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_363 : BitVec 32 := 23#32
  let v437 : BitVec 32 := Scalar.addi v2 c23_i32_363
  let c32_i32_364 : BitVec 32 := 32#32
  let v438 : BitVec 32 := Scalar.remsi v437 c32_i32_364
  let c1_i32_371 : BitVec 32 := 1#32
  let v443 : BitVec 32 := Scalar.muli v438 c1_i32_371
  let v444 : BitVec 32 := Scalar.addi c0_i32_372 v443
  v444.toNat
def k0_dev50 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_375 : BitVec 32 := 10#32
  let v451 : BitVec 32 := Scalar.addi v2 c10_i32_375
  let c32_i32_376 : BitVec 32 := 32#32
  let v452 : BitVec 32 := Scalar.remsi v451 c32_i32_376
  let c1_i32_383 : BitVec 32 := 1#32
  let v457 : BitVec 32 := Scalar.muli v452 c1_i32_383
  let v458 : BitVec 32 := Scalar.addi c0_i32_384 v457
  v458.toNat
def k0_dev51 (d0 : Dev nD) : Nat :=
  let c0_i32_396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_387 : BitVec 32 := 22#32
  let v465 : BitVec 32 := Scalar.addi v2 c22_i32_387
  let c32_i32_388 : BitVec 32 := 32#32
  let v466 : BitVec 32 := Scalar.remsi v465 c32_i32_388
  let c1_i32_395 : BitVec 32 := 1#32
  let v471 : BitVec 32 := Scalar.muli v466 c1_i32_395
  let v472 : BitVec 32 := Scalar.addi c0_i32_396 v471
  v472.toNat
def k0_dev52 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_399 : BitVec 32 := 11#32
  let v479 : BitVec 32 := Scalar.addi v2 c11_i32_399
  let c32_i32_400 : BitVec 32 := 32#32
  let v480 : BitVec 32 := Scalar.remsi v479 c32_i32_400
  let c1_i32_407 : BitVec 32 := 1#32
  let v485 : BitVec 32 := Scalar.muli v480 c1_i32_407
  let v486 : BitVec 32 := Scalar.addi c0_i32_408 v485
  v486.toNat
def k0_dev53 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_411 : BitVec 32 := 21#32
  let v493 : BitVec 32 := Scalar.addi v2 c21_i32_411
  let c32_i32_412 : BitVec 32 := 32#32
  let v494 : BitVec 32 := Scalar.remsi v493 c32_i32_412
  let c1_i32_419 : BitVec 32 := 1#32
  let v499 : BitVec 32 := Scalar.muli v494 c1_i32_419
  let v500 : BitVec 32 := Scalar.addi c0_i32_420 v499
  v500.toNat
def k0_dev54 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_423 : BitVec 32 := 12#32
  let v507 : BitVec 32 := Scalar.addi v2 c12_i32_423
  let c32_i32_424 : BitVec 32 := 32#32
  let v508 : BitVec 32 := Scalar.remsi v507 c32_i32_424
  let c1_i32_431 : BitVec 32 := 1#32
  let v513 : BitVec 32 := Scalar.muli v508 c1_i32_431
  let v514 : BitVec 32 := Scalar.addi c0_i32_432 v513
  v514.toNat
def k0_dev55 (d0 : Dev nD) : Nat :=
  let c0_i32_444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_435 : BitVec 32 := 20#32
  let v521 : BitVec 32 := Scalar.addi v2 c20_i32_435
  let c32_i32_436 : BitVec 32 := 32#32
  let v522 : BitVec 32 := Scalar.remsi v521 c32_i32_436
  let c1_i32_443 : BitVec 32 := 1#32
  let v527 : BitVec 32 := Scalar.muli v522 c1_i32_443
  let v528 : BitVec 32 := Scalar.addi c0_i32_444 v527
  v528.toNat
def k0_dev56 (d0 : Dev nD) : Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_447 : BitVec 32 := 13#32
  let v535 : BitVec 32 := Scalar.addi v2 c13_i32_447
  let c32_i32_448 : BitVec 32 := 32#32
  let v536 : BitVec 32 := Scalar.remsi v535 c32_i32_448
  let c1_i32_455 : BitVec 32 := 1#32
  let v541 : BitVec 32 := Scalar.muli v536 c1_i32_455
  let v542 : BitVec 32 := Scalar.addi c0_i32_456 v541
  v542.toNat
def k0_dev57 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_459 : BitVec 32 := 19#32
  let v549 : BitVec 32 := Scalar.addi v2 c19_i32_459
  let c32_i32_460 : BitVec 32 := 32#32
  let v550 : BitVec 32 := Scalar.remsi v549 c32_i32_460
  let c1_i32_467 : BitVec 32 := 1#32
  let v555 : BitVec 32 := Scalar.muli v550 c1_i32_467
  let v556 : BitVec 32 := Scalar.addi c0_i32_468 v555
  v556.toNat
def k0_dev58 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_471 : BitVec 32 := 14#32
  let v563 : BitVec 32 := Scalar.addi v2 c14_i32_471
  let c32_i32_472 : BitVec 32 := 32#32
  let v564 : BitVec 32 := Scalar.remsi v563 c32_i32_472
  let c1_i32_479 : BitVec 32 := 1#32
  let v569 : BitVec 32 := Scalar.muli v564 c1_i32_479
  let v570 : BitVec 32 := Scalar.addi c0_i32_480 v569
  v570.toNat
def k0_dev59 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_483 : BitVec 32 := 18#32
  let v577 : BitVec 32 := Scalar.addi v2 c18_i32_483
  let c32_i32_484 : BitVec 32 := 32#32
  let v578 : BitVec 32 := Scalar.remsi v577 c32_i32_484
  let c1_i32_491 : BitVec 32 := 1#32
  let v583 : BitVec 32 := Scalar.muli v578 c1_i32_491
  let v584 : BitVec 32 := Scalar.addi c0_i32_492 v583
  v584.toNat
def k0_dev60 (d0 : Dev nD) : Nat :=
  let c0_i32_504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_495 : BitVec 32 := 15#32
  let v591 : BitVec 32 := Scalar.addi v2 c15_i32_495
  let c32_i32_496 : BitVec 32 := 32#32
  let v592 : BitVec 32 := Scalar.remsi v591 c32_i32_496
  let c1_i32_503 : BitVec 32 := 1#32
  let v597 : BitVec 32 := Scalar.muli v592 c1_i32_503
  let v598 : BitVec 32 := Scalar.addi c0_i32_504 v597
  v598.toNat
def k0_dev61 (d0 : Dev nD) : Nat :=
  let c0_i32_516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_507 : BitVec 32 := 17#32
  let v605 : BitVec 32 := Scalar.addi v2 c17_i32_507
  let c32_i32_508 : BitVec 32 := 32#32
  let v606 : BitVec 32 := Scalar.remsi v605 c32_i32_508
  let c1_i32_515 : BitVec 32 := 1#32
  let v611 : BitVec 32 := Scalar.muli v606 c1_i32_515
  let v612 : BitVec 32 := Scalar.addi c0_i32_516 v611
  v612.toNat
def k0_dev62 (d0 : Dev nD) : Nat :=
  let c0_i32_528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_519 : BitVec 32 := 16#32
  let v619 : BitVec 32 := Scalar.addi v2 c16_i32_519
  let c32_i32_520 : BitVec 32 := 32#32
  let v620 : BitVec 32 := Scalar.remsi v619 c32_i32_520
  let c1_i32_527 : BitVec 32 := 1#32
  let v625 : BitVec 32 := Scalar.muli v620 c1_i32_527
  let v626 : BitVec 32 := Scalar.addi c0_i32_528 v625
  v626.toNat
abbrev stage0_0 : Fin 1 → Memref sig .tc .vmem S4096x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Protocol.lean ====
/-
# The protocol of the kernel: cells, schedule, levels, contents

Thirty-two devices. Device `c` holds `x`'s column block `c`; it sends row block `c + s` of it to device `c + s`,
for every shift `s ≠ 0`, into slot `c` of that device's gathering buffer, and copies row block `c` into its own slot `c`.

Semaphores of device `c`, each used for one round:
  * the barrier: `c` signals it itself (1) and waits for it; nothing is handed over;
  * credit `s ≠ 0`: device `c + s` signals it (1) and hands over slot `c` of its own gathering buffer;
    `c` waits for it before it sends to `c + s`;
  * receive `j ≠ c`: device `j`'s transfer pays it (the credit of one slot) and hands over slot `j` of `c`'s buffer,
    holding row block `c` of `j`'s `x`;
  * send `s ≠ 0`: `c`'s own transfer to `c + s` pays it and hands back row block `c + s` of `c`'s staged `x`.
Levels: send and staging 0, barrier 1, credit 2, receive 3.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

/-- A shift, or a device's number, as the semaphore arrays index it. -/
abbrev Ix32 : Type := Fin 32

/-- The semaphores of one device: the barrier, and send, receive and credit numbers. -/
abbrev Cell : Type := Option (Fin 3 × Ix32)

abbrev barS : Sem sig := (SemArray.scalar (sig.barrier 0 rfl) : Sems sig S_).sem
def sendS (s : Ix32) : DmaSem sig := ⟨5 + s.val, by have := s.isLt; show _ < 69; omega⟩
def recvS (j : Ix32) : DmaSem sig := ⟨37 + j.val, by have := j.isLt; show _ < 69; omega⟩
def credS (s : Ix32) : Sem sig := ⟨s.val, by have := s.isLt; show _ < 33; omega⟩

/-- The semaphore a cell name stands for. -/
def csem : Cell → SemLoc sig
  | none => .reg barS
  | some (0, s) => .dma (sendS s)
  | some (1, j) => .dma (recvS j)
  | some (2, s) => .reg (credS s)

abbrev kcell (c : Dev nD) (k : Cell) : GSem nD τ sig := ((c : Thread nD τ), csem k)
abbrev bar : Cell := none
abbrev snd (s : Ix32) : Cell := some (0, s)
abbrev rcv (j : Ix32) : Cell := some (1, j)
abbrev crd (s : Ix32) : Cell := some (2, s)

theorem csem_injective : Function.Injective csem := by
  have hb : barS.val = 32 := by decide
  rintro (_ | ⟨k, s⟩) (_ | ⟨k', s'⟩) h
  · rfl
  · fin_cases k'
    · cases h
    · cases h
    · exfalso
      have h2 : barS = credS s' := SemLoc.reg.inj h
      have := congrArg Fin.val h2
      rw [hb] at this
      simp only [credS] at this
      omega
  · fin_cases k
    · cases h
    · cases h
    · exfalso
      have h2 : credS s = barS := SemLoc.reg.inj h
      have := congrArg Fin.val h2
      rw [hb] at this
      simp only [credS] at this
      omega
  · fin_cases k <;> fin_cases k' <;> first
      | (exfalso; cases h; done)
      | (have h2 := congrArg Fin.val (SemLoc.dma.inj h)
         simp only [sendS, recvS] at h2
         first
           | (have : s = s' := Fin.ext (by omega)
              subst this; rfl)
           | (exfalso; omega))
      | (have h2 := congrArg Fin.val (SemLoc.reg.inj h)
         simp only [credS] at h2
         have : s = s' := Fin.ext (by omega)
         subst this; rfl)

open Classical in
/-- The cell name of a semaphore, if it has one. -/
def kindOf (sm : SemLoc sig) : Option Cell := if h : ∃ k, csem k = sm then some h.choose else none

theorem kindOf_csem (k : Cell) : kindOf (csem k) = some k := by
  have h : ∃ k', csem k' = csem k := ⟨k, rfl⟩
  unfold kindOf; rw [dif_pos h]; exact congrArg some (csem_injective h.choose_spec)

theorem kindOf_stage (q : DmaSem sig) (hq : q.val < 5) : kindOf (.dma q) = none := by
  unfold kindOf
  rw [dif_neg]
  rintro ⟨_ | ⟨k, s⟩, h⟩
  · cases h
  · fin_cases k
    · have h2 := congrArg Fin.val (SemLoc.dma.inj h); simp only [sendS] at h2; omega
    · have h2 := congrArg Fin.val (SemLoc.dma.inj h); simp only [recvS] at h2; omega
    · cases h

theorem kcell_inj {c c' : Dev nD} {k k' : Cell} (h : kcell c k = kcell c' k') : c = c' ∧ k = k' :=
  ⟨congrArg (fun g : GSem nD τ sig => g.1.1) h, csem_injective (congrArg Prod.snd h)⟩

/-! ## Memrefs and element sets -/

abbrev xM : Memref sig .tc .vmem S4096x128 .i8 := Memref.whole cc0_stg0_0
abbrev wM : Memref sig .tc .vmem S4096x2048 .i8 := Memref.whole cc0_stg1_0
abbrev oM : Memref sig .tc .vmem S128x2048 .f32 := Memref.whole cc0_stg4_0
abbrev gM : Memref sig .tc .vmem S128x4096 .i8 := Memref.whole cc0_scratch0

abbrev xLoc (c : Dev nD) : Loc nD τ sig := (c : Thread nD τ).loc cc0_stg0_0
abbrev gLoc (c : Dev nD) : Loc nD τ sig := (c : Thread nD τ).loc cc0_scratch0

/-- The elements of slot `j` of a gathering buffer: columns `128 j` to `128 j + 127`. -/
def slotSet (j : ℕ) : Finset S128x4096.Idx := Finset.univ.filter fun i => (i 1).val / 128 = j
/-- The elements of the slots below `n`. -/
def belowSet (n : ℕ) : Finset S128x4096.Idx := Finset.univ.filter fun i => (i 1).val / 128 < n
/-- The elements of row block `r` of the staged `x`. -/
def rowSet (r : ℕ) : Finset S4096x128.Idx := Finset.univ.filter fun i => (i 0).val / 128 = r

/-- The credit of one slot's transfer. -/
abbrev N : ℕ := (gM.slice (Rect.unit (s := S128x4096) ![0, 0] S128x128.size inb_S128x4096_S128x128_0_0) (fun _ => rfl)).view.dmaCredit
theorem N_pos : 0 < N := View.dmaCredit_pos _ (by decide)

/-! ## Contents -/

/-- The staged blocks of the four inputs. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def sxstg (c : Dev nD) : (cc0_stg2_0 : Ref sig .tc).ty.Contents (Elt F) :=
  (win0_2.blk (0 : Fin 1)).view.read (Elt F) ((s₀ m ρ).mem ((c : Thread nD τ).loc main_arg2))
def swstg (c : Dev nD) : (cc0_stg3_0 : Ref sig .tc).ty.Contents (Elt F) :=
  (win0_3.blk (0 : Fin 1)).view.read (Elt F) ((s₀ m ρ).mem ((c : Thread nD τ).loc main_arg3))

/-- Element `(r, q)` of row block `c` of a staged `x`. -/
def rowIdx (c : Ix32) (r q : ℕ) (hr : r < 128) (hq : q < 128) : S4096x128.Idx :=
  fun a => match a with
    | ⟨0, _⟩ => ⟨128 * c.val + r, by have := c.isLt; show _ < 4096; omega⟩
    | ⟨1, _⟩ => ⟨q, hq⟩

/-- The gathered contents on device `c`: slot `j` holds row block `c` of device `j`'s `x`. -/
def gath (c : Dev nD) : (cc0_scratch0 : Ref sig .tc).ty.Contents (Elt F) := fun i : S128x4096.Idx =>
  xstg m ρ (⟨(i 1).val / 128, by have : (i 1).val < 4096 := (i 1).isLt; show _ < 32; omega⟩ : Dev nD)
    (rowIdx c (i 0).val ((i 1).val % 128) (i 0).isLt (Nat.mod_lt _ (by decide)))

/-- Slot `j` of device `c`'s gathering buffer, at contents `f`. -/
def slotPts (c : Dev nD) (j : Ix32) (f : Buf (Elt F) (gLoc c)) : sProp 𝕄 := gLoc c ↦[slotSet j.val]{fullShare} f
/-- Row block `r` of device `c`'s staged `x`. -/
def rowPts (c : Dev nD) (r : Ix32) : sProp 𝕄 := xLoc c ↦[rowSet r.val]{fullShare} xstg m ρ c

instance slotPts_storable (c : Dev nD) (j : Ix32) (f) : BI.Storable (upEmb : UEmb _ 𝕄) (slotPts (F := F) c j f) := by unfold slotPts; infer_instance
instance rowPts_storable (c : Dev nD) (r : Ix32) : BI.Storable (upEmb : UEmb _ 𝕄) (rowPts (F := F) m ρ c r) := by unfold rowPts; infer_instance

/-! ## The schedule -/

/-- The cells that are used: the barrier, receive `j ≠ c`, send and credit `s ≠ 0`. -/
def used (c : Dev nD) : Cell → Prop
  | none => True
  | some (1, j) => j ≠ c
  | some (_, s) => s ≠ 0
/-- What one landing on a cell counts. -/
def amt : Cell → ℕ
  | none => 1
  | some (2, _) => 1
  | some _ => N
/-- What a landing on a cell of device `c` hands over. -/
def pay (c : Dev nD) : Cell → sProp 𝕄
  | none => iprop(emp)
  | some (0, s) => rowPts m ρ c (c + s)
  | some (1, j) => slotPts c j (gath m ρ c)
  | some (2, s) => iprop(∃ f, slotPts (c + s) c f)
/-- The level of a cell. -/
def lvl : Cell → ℕ
  | none => 1
  | some (0, _) => 0
  | some (1, _) => 3
  | some (2, _) => 2

theorem amt_pos : ∀ k, 0 < amt k
  | none => Nat.one_pos
  | some (0, _) => N_pos
  | some (1, _) => N_pos
  | some (2, _) => Nat.one_pos

instance pay_storable (c : Dev nD) : ∀ k, BI.Storable (upEmb : UEmb _ 𝕄) (pay m ρ c k)
  | none => by unfold pay; infer_instance
  | some (0, s) => by unfold pay; infer_instance
  | some (1, j) => by unfold pay; infer_instance
  | some (2, s) => by unfold pay; infer_instance

open Classical in
/-- One round with one duty per used cell. -/
def sched : Rounds.Schedule (GSem nD τ sig) Unit 𝕄 where
  duties g r := if r = 0 ∧ g.1.2 = .tc ∧ ∃ k, kindOf g.2 = some k ∧ used g.1.1 k then {()} else ∅
  unitless _ := False
  amount g _ _ := ((kindOf g.2).map amt).getD 1
  payload g _ _ := ((kindOf g.2).map (pay m ρ g.1.1)).getD iprop(emp)
  amount_pos g _ _ _ := by
    cases h : kindOf g.2 with
    | none => exact Nat.one_pos
    | some k => exact amt_pos k

instance sched_payload_storable (g : GSem nD τ sig) (r : ℕ) (d : Unit) :
    BI.Storable (upEmb : UEmb _ 𝕄) ((sched (F := F) m ρ).payload g r d) := by
  show BI.Storable upEmb (((kindOf g.2).map (pay m ρ g.1.1)).getD iprop(emp))
  cases h : kindOf g.2 with
  | none => show BI.Storable upEmb (iprop(emp) : sProp 𝕄); infer_instance
  | some k => show BI.Storable upEmb (pay m ρ g.1.1 k); infer_instance

theorem duties_used {c : Dev nD} {k : Cell} (h : used c k) : (sched (F := F) m ρ).duties (kcell c k) 0 = {()} := by
  dsimp only [sched]; exact if_pos ⟨rfl, rfl, k, kindOf_csem k, h⟩
theorem duties_unused {c : Dev nD} {k : Cell} (h : ¬ used c k) (r : ℕ) : (sched (F := F) m ρ).duties (kcell c k) r = ∅ := by
  dsimp only [sched]
  refine if_neg ?_
  rintro ⟨_, _, k', hk, hu⟩
  have : k' = k := Option.some.inj (hk.symm.trans (kindOf_csem k))
  subst this; exact h hu
theorem duties_later (g : GSem nD τ sig) : ∀ r, 1 ≤ r → (sched (F := F) m ρ).duties g r = ∅ :=
  fun r hr => by dsimp only [sched]; exact if_neg fun h => by omega
theorem amount_cell (c : Dev nD) (k : Cell) (d : Unit) : (sched (F := F) m ρ).amount (kcell c k) 0 d = amt k := by
  dsimp only [sched]; rw [kindOf_csem]; rfl
theorem payload_cell (c : Dev nD) (k : Cell) (d : Unit) : (sched (F := F) m ρ).payload (kcell c k) 0 d = pay m ρ c k := by
  dsimp only [sched]; rw [kindOf_csem]; rfl
theorem expect_used {c : Dev nD} {k : Cell} (h : used c k) : (sched (F := F) m ρ).expect (kcell c k) 0 = amt k := by
  unfold Schedule.expect Schedule.amountOf; rw [duties_used m ρ h, Finset.sum_singleton, amount_cell]
theorem rest_used {c : Dev nD} {k : Cell} (h : used c k) :
    bigSep ((sched (F := F) m ρ).duties (kcell c k) 0 \ ∅) (fun d => (sched (F := F) m ρ).payload (kcell c k) 0 d) = pay m ρ c k := by
  rw [Finset.sdiff_empty, duties_used m ρ h, bigSep_singleton, payload_cell]

/-! ## Levels -/

def L (g : GSem nD τ sig) : Finset Unit := if g.1.2 = .tc then {()} else ∅
def lv (g : GSem nD τ sig) (_ : Unit) : ℕ := ((kindOf g.2).map lvl).getD 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cell) (u : Unit) : lv (kcell c k) u = lvl k := by unfold lv; rw [kindOf_csem]; rfl

/-! ## What a core owes -/

/-- The shifts in the order the kernel serves them. -/
def order : List Ix32 := [1, 31, 2, 30, 3, 29, 4, 28, 5, 27, 6, 26, 7, 25, 8, 24, 9, 23, 10, 22, 11, 21, 12, 20, 13, 19, 14, 18, 15, 17, 16]

/-- The receive credits device `c` still owes when it still has to send by the shifts `l`. -/
def oweR (c : Dev nD) : List Ix32 → CellTallies nD τ sig Unit
  | [] => 0
  | s :: l => oweR c l + tallyAt (kcell (c + s) (rcv c)) () N
/-- The signals device `c` still owes when it still has to signal by the shifts `l`. -/
def oweC (c : Dev nD) : List Ix32 → CellTallies nD τ sig Unit
  | [] => 0
  | s :: l => oweC c l + tallyAt (kcell (c - s) (crd s)) () 1
/-- What device `c` owes at launch. -/
def O₀ (c : Dev nD) : CellTallies nD τ sig Unit := oweR c order + oweC c order + tallyAt (kcell c bar) () 1

theorem oweR_pos {c : Dev nD} {l : List Ix32} {g : GSem nD τ sig} {u : Unit} (h : 0 < oweR c l g u) : ∃ s ∈ l, g = kcell (c + s) (rcv c) := by
  induction l with
  | nil => exact absurd h (by show ¬ 0 < 0; omega)
  | cons s l ih =>
    rcases Pipeline.add_pos_cases h with h | h
    · obtain ⟨s', hs', he⟩ := ih h; exact ⟨s', List.mem_cons_of_mem _ hs', he⟩
    · exact ⟨s, List.mem_cons_self, (Pipeline.tallyAt_pos h).1⟩
theorem oweC_pos {c : Dev nD} {l : List Ix32} {g : GSem nD τ sig} {u : Unit} (h : 0 < oweC c l g u) : ∃ s ∈ l, g = kcell (c - s) (crd s) := by
  induction l with
  | nil => exact absurd h (by show ¬ 0 < 0; omega)
  | cons s l ih =>
    rcases Pipeline.add_pos_cases h with h | h
    · obtain ⟨s', hs', he⟩ := ih h; exact ⟨s', List.mem_cons_of_mem _ hs', he⟩
    · exact ⟨s, List.mem_cons_self, (Pipeline.tallyAt_pos h).1⟩

/-- A wait on a semaphore whose level is `n` is allowed while the core owes only tensor-core cells above `n`. -/
theorem mayWait_cut {c : Dev nD} {sm : SemLoc sig} {O : CellTallies nD τ sig Unit} (n : ℕ)
    (hn : lv ((c : Thread nD τ), sm) () = n) (h : ∀ g u, 0 < O g u → ∃ c' k, g = kcell c' k ∧ n < lvl k) :
    (levAts L lv : sProp 𝕄) ⊢ MayWait (c : Thread nD τ) sm () O :=
  Pipeline.mayWait_of_levAts (by rw [L_tc]; exact Finset.mem_singleton_self _) fun g u hg => by
    obtain ⟨c', k, rfl, hk⟩ := h g u hg
    exact ⟨by rw [L_tc]; exact Finset.mem_singleton_self _, by rw [hn, lv_cell]; exact hk⟩

theorem O₀_pos {c : Dev nD} {g : GSem nD τ sig} {u : Unit} (h : 0 < O₀ c g u) : ∃ c' k, g = kcell c' k ∧ 0 < lvl k := by
  rcases Pipeline.add_pos_cases h with h | h
  · rcases Pipeline.add_pos_cases h with h | h
    · obtain ⟨s, _, he⟩ := oweR_pos h; exact ⟨_, _, he, show 0 < 3 by decide⟩
    · obtain ⟨s, _, he⟩ := oweC_pos h; exact ⟨_, _, he, show 0 < 2 by decide⟩
  · exact ⟨_, _, (Pipeline.tallyAt_pos h).1, by decide⟩

theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · exact mayWait_cut 0 (by unfold lv; rw [kindOf_stage q hq]; rfl) fun g u => O₀_pos
  · rw [MayWait_zero]; iintro -; iempintro

end Cert.AllToAll

end
-- ==== Proof.Blocks.lean ====
/-
# Slots of the gathering buffer and row blocks of the staged `x`

The element sets of the slices the kernel names, what a transfer of a row block into a slot leaves there, and the
cutting of a buffer into its thirty-two slots or row blocks and back.
-/
module

public import proofs.«01_k».proof.Proof.Protocol

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Rectangles -/

/-- The slot rectangle at column `128 j`. -/
abbrev slotRect (j : ℕ) (h : ∀ a, (![0, 128 * j] : Fin 2 → ℕ) a + S128x128.size a ≤ S128x4096.size a) : Rect S128x4096 :=
  Rect.unit (s := S128x4096) ![0, 128 * j] S128x128.size h
/-- The row-block rectangle at row `128 r`. -/
abbrev rowRect (r : ℕ) (h : ∀ a, (![128 * r, 0] : Fin 2 → ℕ) a + S128x128.size a ≤ S4096x128.size a) : Rect S4096x128 :=
  Rect.unit (s := S4096x128) ![128 * r, 0] S128x128.size h

/-- An index of the gathering buffer by its two coordinates. -/
theorem gidx_ext {i i' : S128x4096.Idx} (h0 : (i 0).val = (i' 0).val) (h1 : (i 1).val = (i' 1).val) : i = i' :=
  funext fun a => by
    match a with
    | ⟨0, _⟩ => exact Fin.ext h0
    | ⟨1, _⟩ => exact Fin.ext h1
/-- An index of the staged `x` by its two coordinates. -/
theorem xidx_ext {i i' : S4096x128.Idx} (h0 : (i 0).val = (i' 0).val) (h1 : (i 1).val = (i' 1).val) : i = i' :=
  funext fun a => by
    match a with
    | ⟨0, _⟩ => exact Fin.ext h0
    | ⟨1, _⟩ => exact Fin.ext h1

/-- The coordinates of a slot's element in the gathering buffer. -/
theorem slot_emb0 (j : ℕ) (h) (x : (slotRect j h).shape.Idx) : ((((View.whole cc0_scratch0).slice (slotRect j h)).emb x : S128x4096.Idx) 0).val = (x 0).val := by
  rw [ValueKit.view_emb_slice_whole_unit_val]; exact Nat.zero_add _
theorem slot_emb1 (j : ℕ) (h) (x : (slotRect j h).shape.Idx) : ((((View.whole cc0_scratch0).slice (slotRect j h)).emb x : S128x4096.Idx) 1).val = 128 * j + (x 1).val := by
  rw [ValueKit.view_emb_slice_whole_unit_val]; rfl
/-- The coordinates of a row block's element in the staged `x`. -/
theorem row_emb0 (r : ℕ) (h) (x : (rowRect r h).shape.Idx) : ((((View.whole cc0_stg0_0).slice (rowRect r h)).emb x : S4096x128.Idx) 0).val = 128 * r + (x 0).val := by
  rw [ValueKit.view_emb_slice_whole_unit_val]; rfl
theorem row_emb1 (r : ℕ) (h) (x : (rowRect r h).shape.Idx) : ((((View.whole cc0_stg0_0).slice (rowRect r h)).emb x : S4096x128.Idx) 1).val = (x 1).val := by
  rw [ValueKit.view_emb_slice_whole_unit_val]; exact Nat.zero_add _

/-- The index inside a slot of an element of the gathering buffer. -/
def inSlot (i : S128x4096.Idx) : S128x128.Idx := fun a => match a with
  | ⟨0, _⟩ => ⟨(i 0).val, (i 0).isLt⟩
  | ⟨1, _⟩ => ⟨(i 1).val % 128, Nat.mod_lt _ (by decide)⟩

theorem slot_emb_inSlot (j : ℕ) (h) {i : S128x4096.Idx} (hi : i ∈ slotSet j) :
    (((View.whole cc0_scratch0).slice (slotRect j h)).emb (inSlot i) : S128x4096.Idx) = i := by
  have hi := (Finset.mem_filter.mp hi).2
  refine gidx_ext ?_ ?_
  · rw [slot_emb0]; rfl
  · rw [slot_emb1]; show 128 * j + (i 1).val % 128 = _; omega

theorem slotView_set (j : ℕ) (h) : ((View.whole cc0_scratch0).slice (slotRect j h)).set = slotSet j := by
  ext i
  refine ⟨fun hi => ?_, fun hi => ?_⟩
  · obtain ⟨x, -, rfl⟩ := Finset.mem_map.mp hi
    refine Finset.mem_filter.mpr ⟨Finset.mem_univ _, ?_⟩
    rw [slot_emb1]
    have : (x 1).val < 128 := (x 1).isLt
    omega
  · rw [← slot_emb_inSlot j h hi]; exact View.emb_mem_set _ _

theorem rowView_set (r : ℕ) (h) : ((View.whole cc0_stg0_0).slice (rowRect r h)).set = rowSet r := by
  ext i
  refine ⟨fun hi => ?_, fun hi => ?_⟩
  · obtain ⟨x, -, rfl⟩ := Finset.mem_map.mp hi
    refine Finset.mem_filter.mpr ⟨Finset.mem_univ _, ?_⟩
    rw [row_emb0]
    have : (x 0).val < 128 := (x 0).isLt
    omega
  · have hi := (Finset.mem_filter.mp hi).2
    have he : (((View.whole cc0_stg0_0).slice (rowRect r h)).emb (fun a => match a with
        | ⟨0, _⟩ => ⟨(i 0).val % 128, Nat.mod_lt _ (by decide)⟩
        | ⟨1, _⟩ => ⟨(i 1).val, (i 1).isLt⟩) : S4096x128.Idx) = i := by
      refine xidx_ext ?_ ?_
      · rw [row_emb0]; show 128 * r + (i 0).val % 128 = _; omega
      · rw [row_emb1]; rfl
    rw [← he]; exact View.emb_mem_set _ _

/-! ## What a transfer, or the local copy, leaves in a slot -/

/-- Row block `d` of device `c`'s staged `x`, written into slot `c`, is what device `d`'s gathered contents hold there. -/
theorem landed_slot (c d : Dev nD) (h h') (f : (cc0_scratch0 : Ref sig .tc).ty.Contents (Elt F)) {i : S128x4096.Idx} (hi : i ∈ slotSet c.val) :
    ((View.whole cc0_scratch0).slice (slotRect c.val h)).write (Elt F) f
      (((View.whole cc0_stg0_0).slice (rowRect d.val h')).read (Elt F) (xstg m ρ c)) Finset.univ i = gath m ρ d i := by
  conv_lhs => rw [← slot_emb_inSlot c.val h hi]
  rw [View.write_emb_of_mem _ _ (Finset.mem_univ _)]
  have hc := (Finset.mem_filter.mp hi).2
  have hcc : (⟨(i 1).val / 128, by have : (i 1).val < 4096 := (i 1).isLt; show _ < 32; omega⟩ : Dev nD) = c := Fin.ext hc
  show xstg m ρ c _ = gath m ρ d i
  unfold gath
  rw [hcc]
  congr 1
  refine xidx_ext ?_ ?_
  · rw [row_emb0]; rfl
  · rw [row_emb1]; rfl

/-! ## Cutting and joining -/

theorem slot_disjoint {j j' : ℕ} (h : j ≠ j') : Disjoint (slotSet j) (slotSet j') :=
  Finset.disjoint_left.mpr fun i hi hi' => h ((Finset.mem_filter.mp hi).2.symm.trans (Finset.mem_filter.mp hi').2)
theorem row_disjoint {r r' : ℕ} (h : r ≠ r') : Disjoint (rowSet r) (rowSet r') :=
  Finset.disjoint_left.mpr fun i hi hi' => h ((Finset.mem_filter.mp hi).2.symm.trans (Finset.mem_filter.mp hi').2)

/-- The gathering buffer at some contents, cut into its slots. -/
theorem slots_cut (c : Dev nD) (f : Buf (Elt F) (gLoc c)) :
    (gLoc c ↦{fullShare} f : sProp 𝕄) = bigSep Finset.univ fun j : Ix32 => slotPts c j f := by
  have hu : (Finset.univ : Finset Ix32).biUnion (fun j => slotSet j.val) = Finset.univ := by
    ext i
    refine ⟨fun _ => Finset.mem_univ _, fun _ => Finset.mem_biUnion.mpr
      ⟨⟨(i 1).val / 128, by have : (i 1).val < 4096 := (i 1).isLt; omega⟩, Finset.mem_univ _, Finset.mem_filter.mpr ⟨Finset.mem_univ _, rfl⟩⟩⟩
  have := pointsTo_biUnion (Ix := Unit) (Name := ℕ) (U := UU) (Lvl := ℕ) (ℓ := gLoc c) (q := fullShare) (f := f) (Finset.univ : Finset Ix32) (fun j => slotSet j.val)
    (fun j _ j' _ hne => slot_disjoint fun h => hne (Fin.ext h))
  rw [hu] at this
  exact this

/-- The staged `x`, cut into its row blocks. -/
theorem rows_cut (c : Dev nD) :
    (xLoc c ↦{fullShare} xstg m ρ c : sProp 𝕄) = bigSep Finset.univ fun r : Ix32 => rowPts m ρ c r := by
  have hu : (Finset.univ : Finset Ix32).biUnion (fun r => rowSet r.val) = Finset.univ := by
    ext i
    refine ⟨fun _ => Finset.mem_univ _, fun _ => Finset.mem_biUnion.mpr
      ⟨⟨(i 0).val / 128, by have : (i 0).val < 4096 := (i 0).isLt; omega⟩, Finset.mem_univ _, Finset.mem_filter.mpr ⟨Finset.mem_univ _, rfl⟩⟩⟩
  have := pointsTo_biUnion (Ix := Unit) (Name := ℕ) (U := UU) (Lvl := ℕ) (ℓ := xLoc c) (q := fullShare) (f := xstg m ρ c) (Finset.univ : Finset Ix32) (fun r => rowSet r.val)
    (fun j _ j' _ hne => row_disjoint fun h => hne (Fin.ext h))
  rw [hu] at this
  exact this

/-- The slots below `n` and slot `n` are the slots below `n + 1`. -/
theorem below_succ (c : Dev nD) (n : Ix32) (f : Buf (Elt F) (gLoc c)) :
    iprop((gLoc c ↦[belowSet n.val]{fullShare} f) ∗ slotPts c n f) ⊢ (gLoc c ↦[belowSet (n.val + 1)]{fullShare} f : sProp 𝕄) := by
  have hd : Disjoint (belowSet n.val) (slotSet n.val) := Finset.disjoint_left.mpr fun i hi hi' => by
    have h1 := (Finset.mem_filter.mp hi).2; have h2 := (Finset.mem_filter.mp hi').2; omega
  have hu : belowSet n.val ∪ slotSet n.val = belowSet (n.val + 1) := by
    ext i
    unfold belowSet slotSet
    rw [Finset.mem_union, Finset.mem_filter, Finset.mem_filter, Finset.mem_filter]
    constructor
    · rintro (⟨_, h⟩ | ⟨_, h⟩) <;> exact ⟨Finset.mem_univ _, by omega⟩
    · rintro ⟨_, h⟩
      by_cases h' : (i 1).val / 128 < n.val
      · exact Or.inl ⟨Finset.mem_univ _, h'⟩
      · exact Or.inr ⟨Finset.mem_univ _, by omega⟩
  rw [← hu]
  exact (pointsTo_union (ℓ := gLoc c) hd).2

theorem below_zero (c : Dev nD) (f : Buf (Elt F) (gLoc c)) : (gLoc c ↦[belowSet 0]{fullShare} f : sProp 𝕄) = iprop(emp) := by
  have : belowSet 0 = ∅ := Finset.filter_eq_empty_iff.mpr fun i _ => Nat.not_lt_zero _
  rw [this]; exact pointsTo_empty (ℓ := gLoc c)

theorem below_all (c : Dev nD) (f : Buf (Elt F) (gLoc c)) : (gLoc c ↦[belowSet 32]{fullShare} f : sProp 𝕄) = (gLoc c ↦{fullShare} f) := by
  have : belowSet 32 = Finset.univ := Finset.filter_true_of_mem fun i _ => by
    have : (i 1).val < 4096 := (i 1).isLt
    omega
  rw [this]

end Cert.AllToAll

end
-- ==== Proof.Steps.lean ====
/-
# One printed operation at a time

Each effect of the kernel's body, stated for any shift or device number: what device `c` holds before it and after it.
A phase of the body serves the shifts in `order`; its state is indexed by the shifts still to serve (and, where
something comes back, by the shifts already served).
-/
module

public import proofs.«01_k».proof.Proof.Blocks

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program on device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Lists of resources -/

/-- The resources `Φ` of a list's members, one by one. -/
def star {α : Type} (Φ : α → sProp 𝕄) : List α → sProp 𝕄
  | [] => iprop(emp)
  | a :: l => iprop(Φ a ∗ star Φ l)

theorem star_eq {α : Type} [DecidableEq α] (Φ : α → sProp 𝕄) (l : List α) (hl : l.Nodup) : bigSep l.toFinset Φ = star Φ l := by
  induction l with
  | nil => exact bigSep_empty
  | cons a l ih =>
    have h := List.nodup_cons.mp hl
    rw [List.toFinset_cons, bigSep_insert (by rw [List.mem_toFinset]; exact h.1), ih h.2]; rfl

theorem star_mono {α : Type} {Φ Ψ : α → sProp 𝕄} (l : List α) (h : ∀ a, Φ a ⊢ Ψ a) : star Φ l ⊢ star Ψ l := by
  induction l with
  | nil => exact BI.Entails.refl _
  | cons a l ih => exact BI.sep_mono (h a) ih

theorem star_sep {α : Type} (Φ Ψ : α → sProp 𝕄) (l : List α) : iprop(star Φ l ∗ star Ψ l) ⊢ star (fun a => iprop(Φ a ∗ Ψ a)) l := by
  induction l with
  | nil => show iprop(emp ∗ emp) ⊢ (iprop(emp) : sProp 𝕄); iintro -; iempintro
  | cons a l ih =>
    show iprop((Φ a ∗ star Φ l) ∗ Ψ a ∗ star Ψ l) ⊢ iprop((Φ a ∗ Ψ a) ∗ star (fun a => iprop(Φ a ∗ Ψ a)) l)
    iintro ⟨⟨H1, H2⟩, H3, H4⟩
    isplitl [H1 H3]
    · isplitl [H1] <;> iassumption
    · iapply ih; isplitl [H2] <;> iassumption

theorem star_unsep {α : Type} (Φ Ψ : α → sProp 𝕄) (l : List α) : star (fun a => iprop(Φ a ∗ Ψ a)) l ⊢ iprop(star Φ l ∗ star Ψ l) := by
  induction l with
  | nil => show (iprop(emp) : sProp 𝕄) ⊢ iprop(emp ∗ emp); iintro -; isplitl <;> iempintro
  | cons a l ih =>
    show iprop((Φ a ∗ Ψ a) ∗ star (fun a => iprop(Φ a ∗ Ψ a)) l) ⊢ iprop((Φ a ∗ star Φ l) ∗ Ψ a ∗ star Ψ l)
    iintro ⟨⟨H1, H2⟩, H3⟩
    ihave H := ih $$ H3
    icases H with ⟨H3, H4⟩
    isplitl [H1 H3]
    · isplitl [H1] <;> iassumption
    · isplitl [H2] <;> iassumption

/-! ## What every device knows -/

/-- Every cell's invariant and that its round 0 is reached. -/
def records (K : Dev nD × Cell → ℕ) : sProp 𝕄 :=
  iprop((bigSep Finset.univ fun ck : Dev nD × Cell => cellInv ER (sched m ρ) (K ck) (kcell ck.1 ck.2))
    ∗ bigSep Finset.univ fun ck : Dev nD × Cell => reached ER (kcell ck.1 ck.2) 0)

instance records_persistent (K : Dev nD × Cell → ℕ) : BI.Persistent (records m ρ K) := by unfold records; infer_instance

/-- The records and the levels. -/
def known (K : Dev nD × Cell → ℕ) : sProp 𝕄 := iprop(records m ρ K ∗ levAts L lv)

instance known_persistent (K : Dev nD × Cell → ℕ) : BI.Persistent (known m ρ K) := by unfold known; infer_instance

theorem known_inv (K : Dev nD × Cell → ℕ) (c : Dev nD) (k : Cell) : known m ρ K ⊢ cellInv ER (sched m ρ) (K (c, k)) (kcell c k) := by
  have h : (bigSep Finset.univ fun ck : Dev nD × Cell => (cellInv ER (sched m ρ) (K ck) (kcell ck.1 ck.2) : sProp 𝕄))
      ⊢ cellInv ER (sched m ρ) (K (c, k)) (kcell c k) := bigSep_elim (Finset.mem_univ (c, k))
  unfold known records
  iintro ⟨⟨H, -⟩, -⟩
  iapply h; iexact H
theorem known_reached (K : Dev nD × Cell → ℕ) (c : Dev nD) (k : Cell) : known m ρ K ⊢ reached ER (kcell c k) 0 := by
  have h : (bigSep Finset.univ fun ck : Dev nD × Cell => (reached ER (kcell ck.1 ck.2) 0 : sProp 𝕄))
      ⊢ reached ER (kcell c k) 0 := bigSep_elim (Finset.mem_univ (c, k))
  unfold known records
  iintro ⟨⟨-, H⟩, -⟩
  iapply h; iexact H
theorem known_wait (K : Dev nD × Cell → ℕ) {c : Dev nD} {sm : SemLoc sig} {O : CellTallies nD τ sig Unit} (n : ℕ)
    (hn : lv ((c : Thread nD τ), sm) () = n) (h : ∀ g u, 0 < O g u → ∃ c' k, g = kcell c' k ∧ n < lvl k) :
    known m ρ K ⊢ MayWait (c : Thread nD τ) sm () O := by
  unfold known
  iintro ⟨-, H⟩
  iapply (mayWait_cut n hn h)
  iexact H

/-! ## One signal, one wait, one transfer -/

/-- What core `c` owes, whatever waits it has made. -/
def owesX (c : Dev nD) (O : CellTallies nD τ sig Unit) : sProp 𝕄 := iprop(∃ W, owes (c : Thread nD τ) O W)

/-- A credit token, position and duty token of a cell. -/
abbrev credAt (c : Dev nD) (k : Cell) : sProp 𝕄 := cred (tallyAt (kcell c k) () (amt k))
abbrev pos0 (c : Dev nD) (k : Cell) : sProp 𝕄 := atPos ER (kcell c k) 0 ∅ 0
abbrev tok (c : Dev nD) (k : Cell) : sProp 𝕄 := dutyTok ER (kcell c k) 0 ()
abbrev zero (c : Dev nD) (k : Cell) : sProp 𝕄 := semVal (kcell c k) 0

variable (K : Dev nD × Cell → ℕ)

/-- A used cell's signal: the payload handed over. -/
theorem signal_rule (c d : Dev nD) (k : Cell) (hu : used d k) {sem : Sem sig} (hs : csem k = .reg sem) (ha : amt k = 1)
    (O : CellTallies nD τ sig Unit) {α : Type} {Q : α → sProp 𝕄} {kk : PUnit → Prog (TpuEff nD τ sig (Elt F) Λ₀ .tc) α} :
    iprop(known m ρ K ∗ owesX c (O + tallyAt (kcell d k) () 1) ∗ tok d k ∗ pay m ρ d k)
      ⊢ iprop((owesX c O -∗ WP c (kk ⟨⟩) Q) -∗ WP c (.op (.semSignal (d : Thread nD τ) sem 1) kk) Q) := by
  unfold owesX
  iintro ⟨#HK, ⟨%W, HO⟩, Htok, Hpay⟩ Hk
  have hcell : kcell d k = ((d : Thread nD τ), .reg sem) := by unfold kcell; rw [hs]
  iapply (Rounds.wp_signal 𝒱₀ ER (sched m ρ) (c : Thread nD τ) none (dst := (d : Thread nD τ)) (sem := sem) (r := 0) (d := ()) (κ := K (d, k)) (k' := 1)
      (by rw [← hcell, duties_used m ρ hu]; exact Finset.mem_singleton_self _) (by rw [← hcell, amount_cell]; exact ha) () O (W := W) rfl) $$ [HO Htok Hpay]
  · rw [← hcell]
    isplitr; · iapply (known_inv m ρ K d k); iexact HK
    isplitl [HO]; · iexact HO
    isplitl [Htok]; · iexact Htok
    isplitl [Hpay]; · rw [payload_cell]; iexact Hpay
    iapply (known_reached m ρ K d k); iexact HK
  iintro HO
  iapply Hk
  iexists W; iexact HO

/-- A wait for all of a used cell's round: its payload comes, and the cell closes at zero. -/
theorem wait_rule (c : Dev nD) (k : Cell) (hu : used c k) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (csem k) (amt k) Kt)
    (O : CellTallies nD τ sig Unit) (hO : ∀ g u, 0 < O g u → ∃ c' k', g = kcell c' k' ∧ lvl k < lvl k')
    {α : Type} {Q : α → sProp 𝕄} {kk : PUnit → Prog (TpuEff nD τ sig (Elt F) Λ₀ .tc) α} :
    iprop(known m ρ K ∗ owesX c O ∗ credAt c k ∗ pos0 c k)
      ⊢ iprop(((owesX c O ∗ zero c k ∗ pay m ρ c k) -∗ WP c (kk ⟨⟩) Q) -∗ WP c (.op w kk) Q) := by
  unfold owesX
  iintro ⟨#HK, ⟨%W, HO⟩, Hcr, Hat⟩ Hk
  iapply (Rounds.wp_wait_rest_token 𝒱₀ ER (sched m ρ) (c : Thread nD τ) none (κ := K (c, k)) hw (Set.mem_univ _) () (O := O) (W := W) (R := 0) (m := 0) (T := ∅)
      (by rw [Nat.zero_add]; exact (expect_used m ρ hu).symm)) $$ [HO Hcr Hat]
  · isplitr; · iapply (known_inv m ρ K c k); iexact HK
    isplitl [Hcr]; · iexact Hcr
    isplitl [HO]; · iexact HO
    isplitr
    · iapply (known_wait m ρ K (lvl k) (lv_cell c k ()) hO); iexact HK
    iexact Hat
  iintro ⟨HO, Hat, -, Hpay⟩
  ihave Hp := (Entails.of_eq (rest_used m ρ hu)) $$ Hpay
  imod (Rounds.cell_close ER (sched m ρ) (Set.mem_univ (K (c, k))) (fun h => h) (R := 0 + 1) (duties_later m ρ (kcell c k))) $$ [Hat] with Hz
  · isplitr; · iapply (known_inv m ρ K c k); iexact HK
    iexact Hat
  iapply Hk
  isplitl [HO]; · iexists _; iexact HO
  isplitl [Hz]; · iexact Hz
  iexact Hp

/-- An unused cell closes at zero without any wait. -/
theorem close_unused (c : Dev nD) (k : Cell) (hu : ¬ used c k) : iprop(known m ρ K ∗ pos0 c k) ⊢ |={Set.univ}=> zero c k := by
  iintro ⟨#HK, Hat⟩
  iapply (Rounds.cell_close ER (sched m ρ) (Set.mem_univ (K (c, k))) (fun h => h) (R := 0) (fun r _ => duties_unused m ρ hu r))
  isplitr; · iapply (known_inv m ρ K c k); iexact HK
  iexact Hat

end Cert.AllToAll

end
-- ==== Proof.Phases.lean ====
/-
# The phases of the body

What device `c` holds in each phase, indexed by the shifts it has still to serve, and each printed operation as a step
from one such state to the next. `R` is whatever else the device holds.
-/
module

public import proofs.«01_k».proof.Proof.Steps

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

/-! ## Programs -/

/-- A part of the body run first, the rest as its postcondition. -/
theorem part_first {c : Dev nD} {P : sProp 𝕄} {α β : Type} {Q : α → sProp 𝕄} {p p' : Prog (TpuEff nD τ sig (Elt F) Λ₀ .tc) β} {kk : β → Prog (TpuEff nD τ sig (Elt F) Λ₀ .tc) α}
    (he : p = p') (h : P ⊢ WP c p' (fun a => WP c (kk a) Q)) : P ⊢ WP c (p >>= kk) Q := by
  subst he; unfold WP; rw [wp_bind]; exact h

/-- The end of a part. -/
theorem part_done {c : Dev nD} {P : sProp 𝕄} {α : Type} {Q : α → sProp 𝕄} {v : α} (h : P ⊢ Q v) : P ⊢ WP c (pure v) Q := by
  unfold WP; rw [wp_pure]; exact h.trans fupd_intro

/-- One effect, then the rest. -/
theorem lift_bind {α β : Type} (e : TpuEff nD τ sig (Elt F) Λ₀ .tc β) (kk : β → Prog (TpuEff nD τ sig (Elt F) Λ₀ .tc) α) :
    (Prog.lift e >>= kk) = Prog.op e kk := rfl

/-- A program asks for its device. -/
theorem ask_device {c : Dev nD} {P : sProp 𝕄} {α : Type} {Q : α → sProp 𝕄} {kk : Dev nD → Prog (TpuEff nD τ sig (Elt F) Λ₀ .tc) α}
    (h : P ⊢ WP c (kk c) Q) : P ⊢ WP c (Prog.lift .deviceId >>= kk) Q := by
  unfold WP at *
  show P ⊢ wp frame (wpE (defs₀ (F := F)) 𝒱₀ (c : Thread nD τ) none) Set.univ (.op .deviceId kk) Q
  rw [wp_deviceId]; exact h

/-! ## Arithmetic of devices and shifts -/

theorem sub_add_shift (c : Dev nD) (s : Ix32) : (c - s : Dev nD) + s = c := by
  apply Fin.ext
  have := c.isLt; have := s.isLt
  simp only [Fin.val_add, Fin.sub_def, nD] at *
  omega
theorem val_sub_shift (c : Dev nD) (s : Ix32) : (c - s : Dev nD).val = (c.val + (32 - s.val)) % 32 := by
  simp only [Fin.sub_def]; rw [Nat.add_comm]
theorem val_add_shift (c : Dev nD) (s : Ix32) : (c + s : Dev nD).val = (c.val + s.val) % 32 := Fin.val_add _ _

theorem pay_bar (c : Dev nD) : pay m ρ c bar = iprop(emp) := rfl
theorem pay_snd (c : Dev nD) (s : Ix32) : pay m ρ c (snd s) = rowPts m ρ c (c + s) := rfl
theorem pay_rcv (c : Dev nD) (j : Ix32) : pay m ρ c (rcv j) = slotPts c j (gath m ρ c) := rfl
theorem pay_crd (c : Dev nD) (s : Ix32) : pay m ρ c (crd s) = iprop(∃ f, slotPts (c + s) c f) := rfl
theorem star_cons {β : Type} (Φ : β → sProp 𝕄) (a : β) (l : List β) : star Φ (a :: l) = iprop(Φ a ∗ star Φ l) := rfl

/-! ## The barrier and the credit signals -/

/-- The device's own signal and wait on its barrier. -/
theorem bar_step {c : Dev nD} {R : sProp 𝕄} {α : Type} {Q : α → sProp 𝕄} {kk : PUnit → Prog (TpuEff nD τ sig (Elt F) Λ₀ .tc) α}
    (h : iprop(known m ρ K ∗ (owesX c (oweR c order + oweC c order) ∗ zero c bar) ∗ R) ⊢ WP c (kk ⟨⟩) Q) :
    iprop(known m ρ K ∗ (owesX c (O₀ c) ∗ tok c bar ∗ credAt c bar ∗ pos0 c bar) ∗ R)
      ⊢ WP c (semSignalHereWord barS 1#32 >>= fun _ => semWaitWord barS 1#32 >>= kk) Q := by
  show _ ⊢ WP c (.op .deviceId fun d => .op (.semSignal (d, .tc) barS 1) fun _ => .op (.semWait barS 1) kk) Q
  unfold WP
  rw [wp_deviceId]
  iintro ⟨#HK, ⟨HO, Ht, Hc, Hp⟩, HR⟩
  iapply (signal_rule m ρ K c c bar trivial rfl rfl (oweR c order + oweC c order)) $$ [HO Ht]
  · isplitr; · iexact HK
    isplitl [HO]; · iexact HO
    isplitl [Ht]; · iexact Ht
    rw [pay_bar]; iempintro
  iintro HO
  iapply (wait_rule m ρ K c bar trivial (wpE_semWait_eq 𝒱₀ (c : Thread nD τ) none Set.univ) (oweR c order + oweC c order)
    (fun g u hg => by
      rcases Pipeline.add_pos_cases hg with hg | hg
      · obtain ⟨s, _, he⟩ := oweR_pos hg; exact ⟨_, _, he, show 1 < 3 by decide⟩
      · obtain ⟨s, _, he⟩ := oweC_pos hg; exact ⟨_, _, he, show 1 < 2 by decide⟩)) $$ [HO Hc Hp]
  · isplitr; · iexact HK
    isplitl [HO]; · iexact HO
    isplitl [Hc]; · iexact Hc
    iexact Hp
  iintro ⟨HO, Hz, -⟩
  iapply h
  isplitr; · iexact HK
  isplitr [HR]
  · isplitl [HO]; · iexact HO
    iexact Hz
  iexact HR

/-- What the signal by shift `s` takes: the duty token of the credit it pays, and the slot it hands over. -/
def SigRes (c : Dev nD) (s : Ix32) : sProp 𝕄 := iprop(tok (c - s) (crd s) ∗ ∃ f, slotPts c (c - s) f)
/-- Before the signals by the shifts `l`. -/
def SigSt (c : Dev nD) (l : List Ix32) : sProp 𝕄 := iprop(owesX c (oweR c order + oweC c l) ∗ star (SigRes c) l)

/-- One credit signal. -/
theorem sig_step {c d : Dev nD} {s : Ix32} {l : List Ix32} {sem : Sem sig} {R : sProp 𝕄} {α : Type} {Q : α → sProp 𝕄} {kk : PUnit → Prog (TpuEff nD τ sig (Elt F) Λ₀ .tc) α}
    (hd : d.val = (c.val + (32 - s.val)) % 32) (hs : s ≠ 0) (hsem : sem = credS s)
    (h : iprop(known m ρ K ∗ SigSt c l ∗ R) ⊢ WP c (kk ⟨⟩) Q) :
    iprop(known m ρ K ∗ SigSt c (s :: l) ∗ R) ⊢ WP c (semSignalWord d sem 1#32 >>= kk) Q := by
  have hd : d = c - s := Fin.ext (hd.trans (val_sub_shift c s).symm)
  subst hd hsem
  show _ ⊢ WP c (.op (.semSignal ((c - s : Dev nD), .tc) (credS s) 1) kk) Q
  show iprop(known m ρ K ∗ (owesX c (oweR c order + oweC c (s :: l)) ∗ SigRes c s ∗ star (SigRes c) l) ∗ R) ⊢ _
  unfold SigRes
  iintro ⟨#HK, ⟨HO, ⟨Ht, Hs⟩, Hl⟩, HR⟩
  iapply (signal_rule m ρ K c (c - s) (crd s) hs rfl rfl (oweR c order + oweC c l)) $$ [HO Ht Hs]
  · isplitr; · iexact HK
    isplitl [HO]
    · rw [add_assoc]; iexact HO
    isplitl [Ht]; · iexact Ht
    rw [pay_crd, sub_add_shift]; iexact Hs
  iintro HO
  iapply h
  isplitr; · iexact HK
  isplitr [HR]
  · unfold SigSt SigRes
    isplitl [HO]; · iexact HO
    iexact Hl
  iexact HR

/-! ## The transfers -/

/-- The slot of the gathering buffer at offsets `og`, and the row block of the staged `x` at offsets `ox`, as the kernel names them. -/
abbrev slotM (og : Fin 2 → ℕ) (hg : ∀ a, og a + S128x128.size a ≤ S128x4096.size a) : Memref sig .tc .vmem S128x128 .i8 :=
  gM.slice (Rect.unit (s := S128x4096) og S128x128.size hg) (fun _ => rfl)
abbrev rowM (ox : Fin 2 → ℕ) (hx : ∀ a, ox a + S128x128.size a ≤ S4096x128.size a) : Memref sig .tc .vmem S128x128 .i8 :=
  xM.slice (Rect.unit (s := S4096x128) ox S128x128.size hx) (fun _ => rfl)

/-- What waiting for the credit of shift `s` takes. -/
def CrRes (c : Dev nD) (s : Ix32) : sProp 𝕄 := iprop(credAt c (crd s) ∗ pos0 c (crd s))
/-- What the transfer by shift `s` takes besides the slot the credit brings: two duty tokens and the row block sent. -/
def SndRes (c : Dev nD) (s : Ix32) : sProp 𝕄 := iprop(tok (c + s) (rcv c) ∗ tok c (snd s) ∗ rowPts m ρ c (c + s))
/-- What the transfer by shift `s` leaves: the closed credit cell and the credit token of the send semaphore. -/
def SentRes (c : Dev nD) (s : Ix32) : sProp 𝕄 := iprop(zero c (crd s) ∗ credAt c (snd s))
/-- Before the transfers by the shifts `l`, after those by the shifts `ds`. -/
def SendSt (c : Dev nD) (ds l : List Ix32) : sProp 𝕄 :=
  iprop(owesX c (oweR c l) ∗ star (fun s => iprop(CrRes c s ∗ SndRes m ρ c s)) l ∗ star (SentRes c) ds)
/-- Between the credit wait of shift `s` and its transfer. -/
def HalfSt (c : Dev nD) (ds : List Ix32) (s : Ix32) (l : List Ix32) : sProp 𝕄 :=
  iprop((∃ f, slotPts (c + s) c f) ∗ owesX c (oweR c (s :: l)) ∗ SndRes m ρ c s ∗ star (fun s => iprop(CrRes c s ∗ SndRes m ρ c s)) l ∗ zero c (crd s) ∗ star (SentRes c) ds)

/-- One credit wait. -/
theorem credit_step {c : Dev nD} {s : Ix32} {ds l : List Ix32} {sem : Sem sig} {R : sProp 𝕄} {α : Type} {Q : α → sProp 𝕄} {kk : PUnit → Prog (TpuEff nD τ sig (Elt F) Λ₀ .tc) α}
    (hs : s ≠ 0) (hsem : sem = credS s)
    (h : iprop(known m ρ K ∗ HalfSt m ρ c ds s l ∗ R) ⊢ WP c (kk ⟨⟩) Q) :
    iprop(known m ρ K ∗ SendSt m ρ c ds (s :: l) ∗ R) ⊢ WP c (semWaitWord sem 1#32 >>= kk) Q := by
  subst hsem
  show _ ⊢ WP c (.op (.semWait (credS s) 1) kk) Q
  show iprop(known m ρ K ∗ (owesX c (oweR c (s :: l)) ∗ ((CrRes c s ∗ SndRes m ρ c s) ∗ star (fun s => iprop(CrRes c s ∗ SndRes m ρ c s)) l) ∗ star (SentRes c) ds) ∗ R) ⊢ _
  iintro ⟨#HK, ⟨HO, ⟨⟨Hcr, Hsn⟩, Hl⟩, Hds⟩, HR⟩
  unfold CrRes at *
  icases Hcr with ⟨Hc, Hp⟩
  iapply (wait_rule m ρ K c (crd s) hs (wpE_semWait_eq 𝒱₀ (c : Thread nD τ) none Set.univ) (oweR c (s :: l))
    (fun g u hg => by obtain ⟨s, _, he⟩ := oweR_pos hg; exact ⟨_, _, he, show 2 < 3 by decide⟩)) $$ [HO Hc Hp]
  · isplitr; · iexact HK
    isplitl [HO]; · iexact HO
    isplitl [Hc]; · iexact Hc
    iexact Hp
  iintro ⟨HO, Hz, Hpay⟩
  iapply h
  isplitr; · iexact HK
  isplitr [HR]
  · unfold HalfSt CrRes
    isplitl [Hpay]; · iapply (Entails.of_eq (pay_crd m ρ c s)); iexact Hpay
    isplitl [HO]; · iexact HO
    isplitl [Hsn]; · iexact Hsn
    isplitl [Hl]; · iexact Hl
    isplitl [Hz]; · iexact Hz
    iexact Hds
  iexact HR

/-- One transfer, issued. -/
theorem send_rule (c d : Dev nD) (s : Ix32) (hs : s ≠ 0) (hd : d = c + s) (O : CellTallies nD τ sig Unit)
    {ox og : Fin 2 → ℕ} (eox : ox = ![128 * d.val, 0]) (eog : og = ![0, 128 * c.val])
    {hx : ∀ a, ox a + S128x128.size a ≤ S4096x128.size a} {hg : ∀ a, og a + S128x128.size a ≤ S128x4096.size a}
    {sS sR : DmaSem sig} (eS : sS = sendS s) (eR : sR = recvS c)
    {hsc : (slotM og hg).view.ref.isScScratch = false}
    {hsrc : (rowM ox hx).view.WordExact}
    {hdst : (slotM og hg).view.WordExact}
    {hsem : DmaTarget.Typed .vmem (.dma sR) (.remote (Dev.tc d : Thread nD τ) (slotM og hg) (.dma sS) hsc)}
    {α : Type} {Q : α → sProp 𝕄} {kk : PUnit → Prog (TpuEff nD τ sig (Elt F) Λ₀ .tc) α} :
    iprop(known m ρ K ∗ owesX c (O + tallyAt (kcell d (rcv c)) () N) ∗ tok d (rcv c) ∗ tok c (snd s) ∗ rowPts m ρ c d ∗ ∃ f, slotPts d c f)
      ⊢ iprop(((credAt c (snd s) ∗ owesX c O) -∗ WP c (kk ⟨⟩) Q) -∗ WP c
          (.op (.enqueueDma (rowM ox hx)
            (.remote (Dev.tc d : Thread nD τ) (slotM og hg) (.dma sS) hsc) (.dma sR) hsrc hdst hsem) kk) Q) := by
  subst eox eog eS eR
  have hu : used d (rcv c) := by
    show c ≠ d
    rw [hd]; intro h
    apply hs
    have h := congrArg Fin.val h
    rw [val_add_shift] at h
    have := c.isLt; have := s.isLt
    exact Fin.ext (show s.val = 0 by omega)
  unfold owesX
  iintro ⟨#HK, ⟨%W, HO⟩, Htr, Hts, Hx, ⟨%f, Hg⟩⟩ Hk
  iapply (Rounds.wp_send_pointsTo 𝒱₀ ER (sched m ρ) (c : Thread nD τ) none (c' := (d : Thread nD τ)) (κ₁ := K (c, snd s)) (κ₂ := K (d, rcv c))
    (src := rowM ![128 * d.val, 0] hx)
    (dst := slotM ![0, 128 * c.val] hg)
    (sS := .dma (sendS s)) (sem := .dma (recvS c))
    (r₁ := 0) (r₂ := 0) (d₁ := ()) (d₂ := ()) (q := fullShare) (fs := xstg m ρ c) (fd := f)
    (by rw [show (((c : Dev nD) : Thread nD τ), SemLoc.dma (sendS s)) = kcell c (snd s) from rfl, duties_used m ρ (k := snd s) hs]; exact Finset.mem_singleton_self _)
    (by rw [show (((d : Dev nD) : Thread nD τ), SemLoc.dma (recvS c)) = kcell d (rcv c) from rfl, duties_used m ρ hu]; exact Finset.mem_singleton_self _)
    () () N rfl (amount_cell m ρ c (snd s) ()) (amount_cell m ρ d (rcv c) ()) O rfl (W := W)
    (by
      rw [show (((c : Dev nD) : Thread nD τ), SemLoc.dma (sendS s)) = kcell c (snd s) from rfl, payload_cell]
      show _ ⊢ rowPts m ρ c (c + s)
      rw [← hd]; unfold rowPts
      rw [show (rowM ![128 * d.val, 0] hx).view.set = rowSet d.val from rowView_set d.val hx])
    (by
      rw [show (((d : Dev nD) : Thread nD τ), SemLoc.dma (recvS c)) = kcell d (rcv c) from rfl, payload_cell]
      show _ ⊢ slotPts d c (gath m ρ d)
      unfold slotPts
      rw [show (slotM ![0, 128 * c.val] hg).view.set = slotSet c.val from slotView_set c.val hg]
      exact Entails.of_eq (pointsTo_congr (ℓ := gLoc d) fun i hi => landed_slot m ρ c d hg hx f hi))) $$ [HO Htr Hts Hx Hg]
  · isplitr; · iapply (known_inv m ρ K c (snd s)); iexact HK
    isplitr; · iapply (known_inv m ρ K d (rcv c)); iexact HK
    isplitl [Hx]
    · unfold rowPts
      rw [show (rowM ![128 * d.val, 0] hx).view.set = rowSet d.val from rowView_set d.val hx]
      iexact Hx
    isplitl [Hg]
    · unfold slotPts
      rw [show (slotM ![0, 128 * c.val] hg).view.set = slotSet c.val from slotView_set c.val hg]
      iexact Hg
    isplitl [HO]; · iexact HO
    isplitl [Hts]; · iexact Hts
    isplitr; · iapply (known_reached m ρ K c (snd s)); iexact HK
    isplitl [Htr]; · iexact Htr
    iapply (known_reached m ρ K d (rcv c)); iexact HK
  iintro ⟨Hc, HO⟩
  iapply Hk
  isplitl [Hc]; · iexact Hc
  iexists W; iexact HO

/-- One transfer, after its credit wait. -/
theorem send_step {c d : Dev nD} {s : Ix32} {ds l : List Ix32} {R : sProp 𝕄} (hdv : d.val = (c.val + s.val) % 32) (hs : s ≠ 0)
    {ox og : Fin 2 → ℕ} (eox : ox = ![128 * ((c.val + s.val) % 32), 0]) (eog : og = ![0, 128 * c.val])
    {hx : ∀ a, ox a + S128x128.size a ≤ S4096x128.size a} {hg : ∀ a, og a + S128x128.size a ≤ S128x4096.size a}
    {sS sR : DmaSem sig} (eS : sS = sendS s) (eR : sR = recvS c)
    {hsc : (slotM og hg).view.ref.isScScratch = false}
    {hsrc : (rowM ox hx).view.WordExact}
    {hdst : (slotM og hg).view.WordExact}
    {hsem : DmaTarget.Typed .vmem (.dma sR) (.remote (Dev.tc d : Thread nD τ) (slotM og hg) (.dma sS) hsc)}
    {α : Type} {Q : α → sProp 𝕄} {kk : PUnit → Prog (TpuEff nD τ sig (Elt F) Λ₀ .tc) α}
    (h : iprop(known m ρ K ∗ SendSt m ρ c (s :: ds) l ∗ R) ⊢ WP c (kk ⟨⟩) Q) :
    iprop(known m ρ K ∗ HalfSt m ρ c ds s l ∗ R) ⊢ WP c
      (Prog.lift (.enqueueDma (rowM ox hx)
        (.remote (Dev.tc d : Thread nD τ) (slotM og hg) (.dma sS) hsc) (.dma sR) hsrc hdst hsem) >>= kk) Q := by
  have hd : d = c + s := Fin.ext (hdv.trans (val_add_shift c s).symm)
  show _ ⊢ WP c (.op (.enqueueDma (rowM ox hx)
        (.remote (Dev.tc d : Thread nD τ) (slotM og hg) (.dma sS) hsc) (.dma sR) hsrc hdst hsem) kk) Q
  unfold HalfSt SndRes
  rw [← hd]
  iintro ⟨#HK, ⟨Hg, HO, ⟨Htr, Hts, Hx⟩, Hl, Hz, Hds⟩, HR⟩
  iapply (send_rule m ρ K c d s hs hd (oweR c l) (eox.trans (by rw [hdv])) eog eS eR) $$ [HO Htr Hts Hx Hg]
  · isplitr; · iexact HK
    isplitl [HO]
    · rw [show oweR c l + tallyAt (kcell d (rcv c)) () N = oweR c (s :: l) by rw [hd]; rfl]; iexact HO
    isplitl [Htr]; · iexact Htr
    isplitl [Hts]; · iexact Hts
    isplitl [Hx]; · iexact Hx
    iexact Hg
  iintro ⟨Hc, HO⟩
  iapply h
  isplitr; · iexact HK
  isplitr [HR]
  · unfold SendSt SndRes
    isplitl [HO]; · iexact HO
    isplitl [Hl]; · iexact Hl
    rw [star_cons (SentRes c)]
    isplitl [Hz Hc]
    · unfold SentRes; isplitl [Hz]; · iexact Hz
      iexact Hc
    iexact Hds
  iexact HR

/-! ## Loads and the local copy -/

/-- A load of elements that `P` holds. -/
theorem load_step {c : Dev nD} {P : sProp 𝕄} {α : Type} {Q : α → sProp 𝕄} {cs : CoreSpace} {sh : Shape} {e : EltTy} {mm : Memref sig .tc cs sh e} {r : LoadRect sh}
    {hl : mm.view.LoadsAt r} {kk : (r.shape.Idx → Elt F e) → Prog (TpuEff nD τ sig (Elt F) Λ₀ .tc) α}
    {S : Finset (Idx (mm.view.loc (c : Thread nD τ)))} {q : PosShare TreeShare} {f : Buf (Elt F) (mm.view.loc (c : Thread nD τ))}
    (hS : mm.view.setOn r.set ⊆ S)
    (hget : P ⊢ iprop((mm.view.loc (c : Thread nD τ) ↦[S]{q} f) ∗ ((mm.view.loc (c : Thread nD τ) ↦[S]{q} f) -∗ P)))
    (h : P ⊢ WP c (kk (mm.view.readAt (Elt F) r f)) Q) : P ⊢ WP c (Prog.lift (.load mm r hl) >>= kk) Q := by
  rw [lift_bind]
  refine hget.trans ?_
  iintro ⟨Hp, Hk⟩
  iapply (wp_load 𝒱₀ (c : Thread nD τ) none Set.univ (m := mm) hS) $$ Hp
  iintro Hp
  iapply h
  iapply Hk
  iexact Hp

theorem setOn_slot (j : ℕ) (h) : (gM.view).setOn (slotRect j h).toLoadRect.set ⊆ slotSet j := by
  rw [← slotView_set j h, View.set_slice]; exact Finset.Subset.refl _
theorem setOn_row (r : ℕ) (h) : (xM.view).setOn (rowRect r h).toLoadRect.set ⊆ rowSet r := by
  rw [← rowView_set r h, View.set_slice]; exact Finset.Subset.refl _

/-- The local copy: the device's own row block, loaded and stored into its own slot. -/
theorem copy_step {c : Dev nD} {R : sProp 𝕄} {α : Type} {Q : α → sProp 𝕄} {og : Fin 2 → ℕ} (eog : og = ![0, 128 * c.val])
    {hg hg' : ∀ a, og a + S128x128.size a ≤ S128x4096.size a} {ox : Fin 2 → ℕ} (eox : ox = ![128 * c.val, 0])
    {hx : ∀ a, ox a + S128x128.size a ≤ S4096x128.size a}
    {hl : (gM : Memref sig .tc .vmem S128x4096 .i8).view.LoadsAt (Rect.unit (s := S128x4096) og S128x128.size hg).toLoadRect}
    {hst : ((gM : Memref sig .tc .vmem S128x4096 .i8).access (Rect.unit (s := S128x4096) og S128x128.size hg')).Stores Finset.univ}
    {hmk} {kk : PUnit → Prog (TpuEff nD τ sig (Elt F) Λ₀ .tc) α}
    (h : iprop(known m ρ K ∗ slotPts c c (gath m ρ c) ∗ R) ⊢ WP c (kk ⟨⟩) Q) :
    iprop(known m ρ K ∗ (∃ f, slotPts c c f) ∗ R) ⊢ WP c
      (Prog.lift (.load gM (Rect.unit (s := S128x4096) og S128x128.size hg).toLoadRect hl) >>= fun _ : Vec F S128x128 .i8 =>
        Prog.lift (.store gM (Rect.unit (s := S128x4096) og S128x128.size hg')
          (k0_pay2 ((xM : Memref sig .tc .vmem S4096x128 .i8).view.readAt (Elt F) (Rect.unit (s := S4096x128) ox S128x128.size hx).toLoadRect (xstg m ρ c))) Finset.univ hst hmk) >>= kk) Q := by
  subst eog eox
  simp only [lift_bind]
  unfold slotPts at h ⊢
  iintro ⟨#HK, ⟨%f, Hg⟩, HR⟩
  iapply (wp_load 𝒱₀ (c : Thread nD τ) none Set.univ (m := gM) (setOn_slot c.val hg)) $$ Hg
  iintro Hg
  iapply (wp_store 𝒱₀ (c : Thread nD τ) none Set.univ (m := gM) (r := slotRect c.val hg') (Mk := Finset.univ)
    (show ((View.whole cc0_scratch0).slice (slotRect c.val hg')).set ⊆ slotSet c.val by rw [slotView_set])) $$ Hg
  iintro Hg
  iapply h
  isplitr; · iexact HK
  isplitl [Hg]
  · iapply (Entails.of_eq (pointsTo_congr (ℓ := gLoc c) fun i hi => ?_)) $$ Hg
    refine Eq.trans ?_ (landed_slot m ρ c c hg' hx f hi)
    have he : k0_pay2 ((xM : Memref sig .tc .vmem S4096x128 .i8).view.readAt (Elt F) (rowRect c.val hx).toLoadRect (xstg m ρ c))
        = ((View.whole cc0_stg0_0).slice (rowRect c.val hx)).read (Elt F) (xstg m ρ c) := by
      unfold k0_pay2
      simp only [shapeCast_self]
      rfl
    rw [he]
  iexact HR

/-! ## The receives -/

/-- What the receive of slot `j` takes: its cell's position, and the cell's credit — or the local copy's slot. -/
def RcvRes (c : Dev nD) (j : Ix32) : sProp 𝕄 := iprop(pos0 c (rcv j) ∗ if j = c then slotPts c c (gath m ρ c) else credAt c (rcv j))
/-- After the receives of the slots below `n`, which are `ds`, before those of `l`. -/
def RecvSt (c : Dev nD) (n : ℕ) (ds l : List Ix32) : sProp 𝕄 :=
  iprop(owesX c 0 ∗ (gLoc c ↦[belowSet n]{fullShare} gath m ρ c) ∗ star (RcvRes m ρ c) l ∗ star (fun j => zero c (rcv j)) ds)

theorem no_debt {k : Cell} : ∀ (g : GSem nD τ sig) (u : Unit), 0 < (0 : CellTallies nD τ sig Unit) g u → ∃ c' k', g = kcell c' k' ∧ lvl k < lvl k' :=
  fun g u hg => absurd hg (by show ¬ 0 < 0; omega)

/-- One guarded receive: the wait unless the slot is the device's own. -/
theorem recv_step {c : Dev nD} {n : ℕ} {j : Ix32} {ds l : List Ix32} {R : sProp 𝕄} {b : BitVec 1} {db : Decidable (b = 1#1)} (hb : Iff (b = 1#1) (j ≠ c)) (hn : n = j.val)
    {sem : DmaSem sig} (hsem : sem = recvS j) {hx : ∀ a, (![0, 0] : Fin 2 → ℕ) a + S128x128.size a ≤ S4096x128.size a}
    {hg : ∀ a, (![0, 0] : Fin 2 → ℕ) a + S128x128.size a ≤ S128x4096.size a} {h₁ h₂}
    {α : Type} {Q : α → sProp 𝕄} {p : Prog (TpuEff nD τ sig (Elt F) Λ₀ .tc) α}
    (h : iprop(known m ρ K ∗ RecvSt m ρ c (n + 1) (j :: ds) l ∗ R) ⊢ WP c p Q) :
    iprop(known m ρ K ∗ RecvSt m ρ c n ds (j :: l) ∗ R) ⊢ WP c
      (if hh : b = 1#1 then (Prog.lift (.waitDma2 sem (rowM ![0, 0] hx) (slotM ![0, 0] hg) h₁ h₂) >>= fun _ => p) else p) Q := by
  subst hn hsem
  have hfin : iprop(known m ρ K ∗ owesX c 0 ∗ (gLoc c ↦[belowSet j.val]{fullShare} gath m ρ c) ∗ star (RcvRes m ρ c) l ∗ star (fun j => zero c (rcv j)) ds
      ∗ zero c (rcv j) ∗ slotPts c j (gath m ρ c) ∗ R) ⊢ WP c p Q := by
    iintro ⟨#HK, HO, Hb, Hl, Hds, Hz, Hs, HR⟩
    iapply h
    isplitr; · iexact HK
    isplitr [HR]
    · unfold RecvSt
      isplitl [HO]; · iexact HO
      isplitl [Hb Hs]
      · iapply (below_succ c j (gath m ρ c)); isplitl [Hb]; · iexact Hb
        iexact Hs
      isplitl [Hl]; · iexact Hl
      rw [star_cons (fun j => zero c (rcv j))]
      isplitl [Hz]; · iexact Hz
      iexact Hds
    iexact HR
  unfold RecvSt
  rw [star_cons (RcvRes m ρ c)]
  by_cases hjc : j = c
  · rw [dif_neg (fun hh => hb.mp hh hjc)]
    unfold RcvRes
    rw [if_pos hjc]
    iintro ⟨#HK, ⟨HO, Hb, ⟨⟨Hp, Hs⟩, Hl⟩, Hds⟩, HR⟩
    iapply (fupd_wp _ _ _ p Q)
    imod (close_unused m ρ K c (rcv j) (fun hu => hu hjc)) $$ [Hp] with Hz
    · isplitr; · iexact HK
      iexact Hp
    imodintro
    iapply hfin
    isplitr; · iexact HK
    isplitl [HO]; · iexact HO
    isplitl [Hb]; · iexact Hb
    isplitl [Hl]; · iexact Hl
    isplitl [Hds]; · iexact Hds
    isplitl [Hz]; · iexact Hz
    isplitl [Hs]; · rw [hjc]; iexact Hs
    iexact HR
  · rw [dif_pos (hb.mpr hjc)]
    rw [lift_bind]
    unfold RcvRes
    rw [if_neg hjc]
    iintro ⟨#HK, ⟨HO, Hb, ⟨⟨Hp, Hc⟩, Hl⟩, Hds⟩, HR⟩
    iapply (wait_rule m ρ K c (rcv j) hjc (wpE_waitDma2_eq 𝒱₀ (c : Thread nD τ) none Set.univ) 0 no_debt) $$ [HO Hc Hp]
    · isplitr; · iexact HK
      isplitl [HO]; · iexact HO
      isplitl [Hc]; · iexact Hc
      iexact Hp
    iintro ⟨HO, Hz, Hs⟩
    iapply hfin
    isplitr; · iexact HK
    isplitl [HO]; · iexact HO
    isplitl [Hb]; · iexact Hb
    isplitl [Hl]; · iexact Hl
    isplitl [Hds]; · iexact Hds
    isplitl [Hz]; · iexact Hz
    isplitl [Hs]; · iapply (Entails.of_eq (pay_rcv m ρ c j)); iexact Hs
    iexact HR

/-- The guard of the receive of slot `j`: whether `j` is another device's number. -/
theorem guard_iff : ∀ (c : Dev nD) (j : Ix32), Iff (Scalar.cmpi .ne (Scalar.extui
    (Scalar.cmpi .ne (Scalar.remsi (Scalar.divsi (Dev.word c) 1#32) 32#32) (BitVec.ofNat 32 j.val))) 0#32 = 1#1) (j ≠ c) := by decide +kernel

/-! ## The send waits -/

/-- What the send wait of shift `s` takes and gives. -/
def WtRes (c : Dev nD) (s : Ix32) : sProp 𝕄 := iprop(credAt c (snd s) ∗ pos0 c (snd s))
def DoneRes (c : Dev nD) (s : Ix32) : sProp 𝕄 := iprop(zero c (snd s) ∗ rowPts m ρ c (c + s))
/-- Before the send waits of the shifts `l`, after those of `ds`. -/
def WaitSt (c : Dev nD) (ds l : List Ix32) : sProp 𝕄 := iprop(owesX c 0 ∗ star (WtRes c) l ∗ star (DoneRes m ρ c) ds)

/-- A row block's transfer counts what a slot's does. -/
theorem row_credit {ox : Fin 2 → ℕ} {hx : ∀ a, ox a + S128x128.size a ≤ S4096x128.size a} : (rowM ox hx).view.dmaCredit = N := rfl

/-- One send wait: the row block comes back. -/
theorem sent_step {c : Dev nD} {s : Ix32} {ds l : List Ix32} {R : sProp 𝕄} (hs : s ≠ 0)
    {ox og : Fin 2 → ℕ} {hx : ∀ a, ox a + S128x128.size a ≤ S4096x128.size a} {hg : ∀ a, og a + S128x128.size a ≤ S128x4096.size a}
    {sem : DmaSem sig} (hsem : sem = sendS s) {h₁ h₂} {α : Type} {Q : α → sProp 𝕄} {kk : PUnit → Prog (TpuEff nD τ sig (Elt F) Λ₀ .tc) α}
    (h : iprop(known m ρ K ∗ WaitSt m ρ c (s :: ds) l ∗ R) ⊢ WP c (kk ⟨⟩) Q) :
    iprop(known m ρ K ∗ WaitSt m ρ c ds (s :: l) ∗ R) ⊢ WP c (Prog.lift (.waitDma2 sem (slotM og hg) (rowM ox hx) h₁ h₂) >>= kk) Q := by
  subst hsem
  rw [lift_bind]
  unfold WaitSt
  rw [star_cons (WtRes c)]
  unfold WtRes
  iintro ⟨#HK, ⟨HO, ⟨⟨Hc, Hp⟩, Hl⟩, Hds⟩, HR⟩
  iapply (wait_rule m ρ K c (snd s) hs (fun Kt => (wpE_waitDma2_eq 𝒱₀ (c : Thread nD τ) none Set.univ Kt).trans (by rw [row_credit]; rfl)) 0 no_debt) $$ [HO Hc Hp]
  · isplitr; · iexact HK
    isplitl [HO]; · iexact HO
    isplitl [Hc]; · iexact Hc
    iexact Hp
  iintro ⟨HO, Hz, Hx⟩
  iapply h
  isplitr; · iexact HK
  isplitr [HR]
  · unfold WaitSt
    rw [star_cons (DoneRes m ρ c)]
    unfold DoneRes WtRes
    isplitl [HO]; · iexact HO
    isplitl [Hl]; · iexact Hl
    isplitr [Hds]
    · isplitl [Hz]; · iexact Hz
      iapply (Entails.of_eq (pay_snd m ρ c s)); iexact Hx
    iexact Hds
  iexact HR

/-- The row block sent by shift `s`, as the kernel computes its offset. -/
theorem off5_eq : ∀ (c : Dev nD) (s : Ix32), s ≠ 0 → k0_off5 c (BitVec.ofNat 32 s.val) = ![128 * ((c.val + s.val) % 32), 0] := by decide +kernel

end Cert.AllToAll

end
-- ==== Proof.States.lean ====
/-
# What the body reads, writes, starts from and ends with

The transitions between its phases, and its last operations.
-/
module

public import proofs.«01_k».proof.Proof.Phases

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

/-! ## What the body reads and writes -/

/-- Columns `o` to `o + 1023` of the gathered contents, and rows `o` to `o + 1023` of the staged weights, as the kernel loads them. -/
def gRd (c : Dev nD) (o : ℕ) (h : ∀ a, (![0, o] : Fin 2 → ℕ) a + S128x1024.size a ≤ S128x4096.size a) : Vec F S128x1024 .i8 :=
  (gM : Memref sig .tc .vmem S128x4096 .i8).view.readAt (Elt F) (Rect.unit (s := S128x4096) ![0, o] S128x1024.size h).toLoadRect (gath m ρ c)
def wRd (c : Dev nD) (o : ℕ) (h : ∀ a, (![o, 0] : Fin 2 → ℕ) a + S1024x2048.size a ≤ S4096x2048.size a) : Vec F S1024x2048 .i8 :=
  (wM : Memref sig .tc .vmem S4096x2048 .i8).view.readAt (Elt F) (Rect.unit (s := S4096x2048) ![o, 0] S1024x2048.size h).toLoadRect (wstg m ρ c)
/-- The two scales, as the kernel loads them. -/
def sxRd (c : Dev nD) : Elt F .f32 :=
  ((Memref.whole cc0_stg2_0 : Memref sig .tc .smem S1 .f32).access (Rect.unit (s := S1) ![0] S1.size inb_S1_S1_0)).read (Elt F) (sxstg m ρ c) (Shape.Idx.first (numel1_S1.symm ▸ Nat.one_pos))
def swRd (c : Dev nD) : Elt F .f32 :=
  ((Memref.whole cc0_stg3_0 : Memref sig .tc .smem S1 .f32).access (Rect.unit (s := S1) ![0] S1.size inb_S1_S1_0)).read (Elt F) (swstg m ρ c) (Shape.Idx.first (numel1_S1.symm ▸ Nat.one_pos))
/-- The sum of the four quarter products. -/
def accAt (c : Dev nD) : IVec S128x2048 32 :=
  k0_pay6 (k0_pay5 (k0_pay4 (k0_pay3 (gRd m ρ c 0 inb_S128x4096_S128x1024_0_0) (wRd m ρ c 0 inb_S4096x2048_S1024x2048_0_0))
    (gRd m ρ c 1024 inb_S128x4096_S128x1024_0_1024) (wRd m ρ c 1024 inb_S4096x2048_S1024x2048_1024_0))
    (gRd m ρ c 2048 inb_S128x4096_S128x1024_0_2048) (wRd m ρ c 2048 inb_S4096x2048_S1024x2048_2048_0))
    (gRd m ρ c 3072 inb_S128x4096_S128x1024_0_3072) (wRd m ρ c 3072 inb_S4096x2048_S1024x2048_3072_0)
/-- The kernel's result on device `c`. -/
def outAt (c : Dev nD) : (cc0_stg4_0 : Ref sig .tc).ty.Contents (Elt F) := k0_pay1 (accAt m ρ c) (sxRd m ρ c) (swRd m ρ c)

abbrev wPts (c : Dev nD) : sProp 𝕄 := (c : Thread nD τ).loc cc0_stg1_0 ↦{fullShare} wstg m ρ c
abbrev sxPts (c : Dev nD) : sProp 𝕄 := (c : Thread nD τ).loc cc0_stg2_0 ↦{fullShare} sxstg m ρ c
abbrev swPts (c : Dev nD) : sProp 𝕄 := (c : Thread nD τ).loc cc0_stg3_0 ↦{fullShare} swstg m ρ c
abbrev outPts (c : Dev nD) (f : (cc0_stg4_0 : Ref sig .tc).ty.Contents (Elt F)) : sProp 𝕄 := (c : Thread nD τ).loc cc0_stg4_0 ↦{fullShare} f

/-! ## Between the phases -/

/-- All slots in order. -/
def slots : List Ix32 := [0, 1, 2, 3, 4, 5, 6, 7, 8, 9, 10, 11, 12, 13, 14, 15, 16, 17, 18, 19, 20, 21, 22, 23, 24, 25, 26, 27, 28, 29, 30, 31]

theorem order_nodup : order.Nodup := by decide
theorem slots_nodup : slots.Nodup := by decide

theorem mem_slots : ∀ c : Dev nD, c ∈ slots := by decide

/-- The receive semaphore a transfer completes on is the sender's slot's. -/
theorem recv_sem {c : Dev nD} {o : Fin 1 → ℕ} {h : ∀ a, o a + S1.size a ≤ S32.size a} (ho : o = ![c.val]) :
    ((cc0_scratch2.slice (Rect.unit (s := S32) o S1.size h)).squeeze S_ squeezes_S1_S_).sem = recvS c := by
  subst ho; revert h; revert c; decide

/-- A list's resources depend on its members only. -/
theorem star_members (Φ : Ix32 → sProp 𝕄) {l l' : List Ix32} (hl : l.Nodup) (hl' : l'.Nodup) (h : l.toFinset = l'.toFinset) : star Φ l = star Φ l' := by
  rw [← star_eq Φ l hl, ← star_eq Φ l' hl', h]

/-- What the receive of slot `j` takes, before the local copy. -/
def RcvPre (c : Dev nD) (j : Ix32) : sProp 𝕄 := iprop(pos0 c (rcv j) ∗ if j = c then iprop(emp) else credAt c (rcv j))

theorem rcv_other (c : Dev nD) (l : List Ix32) (hl : c ∉ l) : star (RcvPre (F := F) c) l = star (RcvRes m ρ c) l := by
  induction l with
  | nil => rfl
  | cons j l ih =>
    have hj : j ≠ c := fun h => hl (h ▸ List.mem_cons_self)
    rw [star_cons, star_cons, ih fun h => hl (List.mem_cons_of_mem _ h)]
    unfold RcvPre RcvRes
    rw [if_neg hj, if_neg hj]
/-- The local copy's slot joins what the receives take. -/
theorem rcv_ready (c : Dev nD) (l : List Ix32) (hl : l.Nodup) (hc : c ∈ l) :
    iprop(star (RcvPre c) l ∗ slotPts c c (gath m ρ c)) ⊢ star (RcvRes m ρ c) l := by
  induction l with
  | nil => exact absurd hc (List.not_mem_nil)
  | cons j l ih =>
    have hn := List.nodup_cons.mp hl
    rw [star_cons, star_cons]
    by_cases hj : j = c
    · rw [rcv_other m ρ c l (hj ▸ hn.1)]
      unfold RcvPre RcvRes
      rw [if_pos hj, if_pos hj, hj]
      iintro ⟨⟨⟨Hp, -⟩, Hl⟩, Hs⟩
      isplitr [Hl]
      · isplitl [Hp]; · iexact Hp
        iexact Hs
      iexact Hl
    · have hcl : c ∈ l := (List.mem_cons.mp hc).resolve_left fun h => hj h.symm
      have ih := ih hn.2 hcl
      iintro ⟨⟨Hj, Hl⟩, Hs⟩
      isplitl [Hj]
      · unfold RcvPre RcvRes
        rw [if_neg hj, if_neg hj]
        iexact Hj
      · iapply ih
        isplitl [Hl]; · iexact Hl
        iexact Hs

/-- A quarter's columns lie in the slots already received. -/
theorem quarter_sub {o n : ℕ} (h : ∀ a, (![0, o] : Fin 2 → ℕ) a + S128x1024.size a ≤ S128x4096.size a) (hn : o + 1024 ≤ 128 * n) :
    (gM : Memref sig .tc .vmem S128x4096 .i8).view.setOn (Rect.unit (s := S128x4096) ![0, o] S128x1024.size h).toLoadRect.set ⊆ belowSet n := by
  have hs : (gM : Memref sig .tc .vmem S128x4096 .i8).view.setOn (Rect.unit (s := S128x4096) ![0, o] S128x1024.size h).toLoadRect.set
      = ((View.whole cc0_scratch0).slice (Rect.unit (s := S128x4096) ![0, o] S128x1024.size h)).set := by rw [View.set_slice]; rfl
  rw [hs]
  intro i hi
  obtain ⟨x, -, rfl⟩ := Finset.mem_map.mp hi
  refine Finset.mem_filter.mpr ⟨Finset.mem_univ _, ?_⟩
  have he : ((((View.whole cc0_scratch0).slice (Rect.unit (s := S128x4096) ![0, o] S128x1024.size h)).emb x : S128x4096.Idx) 1).val = o + (x 1).val := by
    rw [ValueKit.view_emb_slice_whole_unit_val]; rfl
  rw [he]
  have : (x 1).val < 1024 := (x 1).isLt
  omega

/-- The state of the receives gives the gathered slots for a load and takes them back. -/
theorem recv_lend {c : Dev nD} {n : ℕ} {ds l : List Ix32} {R : sProp 𝕄} : iprop(known m ρ K ∗ RecvSt m ρ c n ds l ∗ R)
    ⊢ iprop((gLoc c ↦[belowSet n]{fullShare} gath m ρ c) ∗ ((gLoc c ↦[belowSet n]{fullShare} gath m ρ c) -∗ (known m ρ K ∗ RecvSt m ρ c n ds l ∗ R))) := by
  unfold RecvSt
  iintro ⟨#HK, ⟨HO, Hb, Hl⟩, HR⟩
  isplitl [Hb]; · iexact Hb
  iintro Hb
  isplitr; · iexact HK
  isplitr [HR]
  · isplitl [HO]; · iexact HO
    isplitl [Hb]; · iexact Hb
    iexact Hl
  iexact HR
/-- What heads the rest gives itself for a load and is taken back. -/
theorem rest_lend {A B X R : sProp 𝕄} : iprop(A ∗ B ∗ X ∗ R) ⊢ iprop(X ∗ (X -∗ (A ∗ B ∗ X ∗ R))) := by
  iintro ⟨HA, HB, HX, HR⟩
  isplitl [HX]; · iexact HX
  iintro HX
  isplitl [HA]; · iexact HA
  isplitl [HB]; · iexact HB
  isplitl [HX]; · iexact HX
  iexact HR

/-! ## The body -/

/-- What the body starts from besides what every device knows. -/
def bodyIn (c : Dev nD) : sProp 𝕄 :=
  iprop((owesX c (O₀ c) ∗ tok c bar ∗ credAt c bar ∗ pos0 c bar) ∗ star (SigRes c) order ∗ (∃ f, slotPts c c f) ∗ rowPts m ρ c c
    ∗ star (fun s => iprop(CrRes c s ∗ SndRes m ρ c s)) order ∗ star (RcvPre c) slots ∗ star (fun s => pos0 c (snd s)) order
    ∗ wPts m ρ c ∗ (sxPts m ρ c ∗ swPts m ρ c ∗ (∃ f, outPts c f)) ∗ pos0 c (snd 0) ∗ pos0 c (crd 0))

/-- What it ends with. -/
def bodyOut (c : Dev nD) : sProp 𝕄 :=
  iprop(owesX c 0 ∗ zero c bar ∗ star (fun j => zero c (rcv j)) slots ∗ star (fun s => zero c (crd s)) order ∗ star (DoneRes m ρ c) order
    ∗ zero c (snd 0) ∗ zero c (crd 0) ∗ rowPts m ρ c c ∗ (gLoc c ↦{fullShare} gath m ρ c)
    ∗ wPts m ρ c ∗ sxPts m ρ c ∗ swPts m ρ c ∗ outPts c (outAt m ρ c))

/-- The device's own row block covers what the local copy loads. -/
theorem own_row {c : Dev nD} {o : Fin 2 → ℕ} (e : o = ![128 * c.val, 0]) {h : ∀ a, o a + S128x128.size a ≤ S4096x128.size a} :
    (xM : Memref sig .tc .vmem S4096x128 .i8).view.setOn (Rect.unit (s := S4096x128) o S128x128.size h).toLoadRect.set ⊆ rowSet c.val := by
  subst e; exact setOn_row c.val h

/-- From the receives to the send waits: the gathered buffer is whole. -/
theorem to_wait {c : Dev nD} {ds : List Ix32} (hn : ds.Nodup) (hm : ds.toFinset = slots.toFinset) {W R : sProp 𝕄} :
    iprop(known m ρ K ∗ RecvSt m ρ c 32 ds [] ∗ W ∗ star (SentRes c) order ∗ star (fun s => pos0 c (snd s)) order ∗ R)
      ⊢ iprop(known m ρ K ∗ WaitSt m ρ c [] order ∗ star (fun j => zero c (rcv j)) slots ∗ star (fun s => zero c (crd s)) order
        ∗ (gLoc c ↦{fullShare} gath m ρ c) ∗ W ∗ R) := by
  unfold RecvSt WaitSt
  rw [below_all, star_members (fun j => zero (F := F) c (rcv j)) hn slots_nodup hm]
  iintro ⟨#HK, ⟨HO, Hg, -, Hz⟩, HW, Hs, Hp, HR⟩
  unfold SentRes
  ihave H := (star_unsep (fun s => zero c (crd s)) (fun s => credAt c (snd s)) order) $$ Hs
  icases H with ⟨Hzc, Hcs⟩
  isplitr; · iexact HK
  isplitl [HO Hcs Hp]
  · isplitl [HO]; · iexact HO
    isplitl [Hcs Hp]
    · iapply (star_sep (fun s => credAt c (snd s)) (fun s => pos0 c (snd s)) order)
      isplitl [Hcs]; · iexact Hcs
      iexact Hp
    iempintro
  isplitl [Hz]; · iexact Hz
  isplitl [Hzc]; · iexact Hzc
  isplitl [Hg]; · iexact Hg
  isplitl [HW]; · iexact HW
  iexact HR

/-- The load of a scale, followed by what uses it. -/
theorem scale_bind {α : Type} {mm : Memref sig .tc .smem S1 .f32} {r : Rect S1} (h1 : r.shape.numel = 1) (hp)
    (kk : Elt F .f32 → Prog (TpuEff nD τ sig (Elt F) Λ₀ .tc) α) :
    (smemLoad mm r h1 hp >>= kk) = smemLoadElt mm r (View.loads_smem_one hp h1) (Shape.Idx.first (h1.symm ▸ Nat.one_pos)) kk := rfl

theorem scale_step {c : Dev nD} {P : sProp 𝕄} {α : Type} {Q : α → sProp 𝕄} {mm : Memref sig .tc .smem S1 .f32} {r : Rect S1} {h1 : r.shape.numel = 1} {hp}
    {kk : Elt F .f32 → Prog (TpuEff nD τ sig (Elt F) Λ₀ .tc) α} {f : Buf (Elt F) ((mm.access r).loc (c : Thread nD τ))}
    (hget : P ⊢ iprop(((mm.access r).loc (c : Thread nD τ) ↦{fullShare} f) ∗ (((mm.access r).loc (c : Thread nD τ) ↦{fullShare} f) -∗ P)))
    (h : P ⊢ WP c (kk ((mm.access r).read (Elt F) f (Shape.Idx.first (h1.symm ▸ Nat.one_pos)))) Q) : P ⊢ WP c (smemLoad mm r h1 hp >>= kk) Q := by
  rw [scale_bind]
  refine hget.trans ?_
  iintro ⟨Hp, Hk⟩
  iapply (wp_smemLoadElt 𝒱₀ (c : Thread nD τ) none Set.univ (m := mm) (r := r) (k := kk) (Finset.subset_univ _)) $$ Hp
  iintro Hp
  iapply h
  iapply Hk
  iexact Hp

/-- A store of the whole result buffer. -/
theorem out_step {c : Dev nD} {f : (cc0_stg4_0 : Ref sig .tc).ty.Contents (Elt F)} {R : sProp 𝕄} {α : Type} {Q : α → sProp 𝕄} {h3} {w : FVec F S128x2048 .f32}
    {h4 : (oM : Memref sig .tc .vmem S128x2048 .f32).view.LoadsAt (Rect.unit (s := S128x2048) ![0, 0] S128x2048.size h3).toLoadRect}
    {h5 : ((oM : Memref sig .tc .vmem S128x2048 .f32).access (Rect.unit (s := S128x2048) ![0, 0] S128x2048.size h3)).Stores Finset.univ} {h6}
    {kk : PUnit → Prog (TpuEff nD τ sig (Elt F) Λ₀ .tc) α} (h : iprop(outPts c w ∗ R) ⊢ WP c (kk ⟨⟩) Q) :
    iprop(outPts c f ∗ R) ⊢ WP c (Prog.lift (.load oM (Rect.unit (s := S128x2048) ![0, 0] S128x2048.size h3).toLoadRect h4) >>= fun _ : Vec F S128x2048 .f32 =>
      Prog.lift (.store oM (Rect.unit (s := S128x2048) ![0, 0] S128x2048.size h3) w Finset.univ h5 h6) >>= kk) Q := by
  simp only [lift_bind]
  iintro ⟨Hout, HR⟩
  iapply (wp_load 𝒱₀ (c : Thread nD τ) none Set.univ (m := oM) (Finset.subset_univ _)) $$ Hout
  iintro Hout
  iapply (wp_store 𝒱₀ (c : Thread nD τ) none Set.univ (m := oM) (r := Rect.unit (s := S128x2048) ![0, 0] S128x2048.size h3) (Mk := Finset.univ) (Finset.subset_univ _)) $$ Hout
  iintro Hout
  iapply h
  isplitr [HR]
  · have hw : ((oM : Memref sig .tc .vmem S128x2048 .f32).access (Rect.unit (s := S128x2048) ![0, 0] S128x2048.size h3)).write (Elt F) f w Finset.univ = w :=
      Memref.write_access_unit_zero_univ (Elt F) cc0_stg4_0 (by decide) h3 f w
    iapply (Entails.of_eq (congrArg (outPts c) hw)) $$ Hout
  iexact HR

/-- The head of two gives itself for a load and is taken back. -/
theorem head_lend {X R : sProp 𝕄} : iprop(X ∗ R) ⊢ iprop(X ∗ (X -∗ (X ∗ R))) := by
  iintro ⟨HX, HR⟩
  isplitl [HX]; · iexact HX
  iintro HX
  isplitl [HX]; · iexact HX
  iexact HR

/-- What the body holds after its last wait, the three buffers of its end first. -/
theorem end_order {c : Dev nD} {ds : List Ix32} (hn : ds.Nodup) (hm : ds.toFinset = order.toFinset) :
    iprop(known m ρ K ∗ WaitSt m ρ c ds [] ∗ star (fun j => zero c (rcv j)) slots ∗ star (fun s => zero c (crd s)) order
        ∗ (gLoc c ↦{fullShare} gath m ρ c) ∗ wPts m ρ c ∗ rowPts m ρ c c ∗ zero c bar
        ∗ (sxPts m ρ c ∗ swPts m ρ c ∗ (∃ f, outPts c f)) ∗ pos0 c (snd 0) ∗ pos0 c (crd 0))
      ⊢ |={Set.univ}=> ∃ f, (sxPts m ρ c ∗ swPts m ρ c ∗ outPts c f ∗ (∀ f', outPts c f' -∗ sxPts m ρ c -∗ swPts m ρ c -∗ ⌜f' = outAt m ρ c⌝ -∗ bodyOut m ρ c)) := by
  unfold WaitSt
  rw [star_members (DoneRes (F := F) m ρ c) hn order_nodup hm]
  iintro ⟨#HK, ⟨HO, -, Hds⟩, Hzr, Hzc, Hg, Hw, Hrow, Hzb, ⟨Hsx, Hsw, ⟨%f, Hout⟩⟩, Hp1, Hp2⟩
  imod (close_unused m ρ K c (snd 0) (fun hu => hu rfl)) $$ [Hp1] with Hz1
  · isplitr; · iexact HK
    iexact Hp1
  imod (close_unused m ρ K c (crd 0) (fun hu => hu rfl)) $$ [Hp2] with Hz2
  · isplitr; · iexact HK
    iexact Hp2
  imodintro
  iexists f
  isplitl [Hsx]; · iexact Hsx
  isplitl [Hsw]; · iexact Hsw
  isplitl [Hout]; · iexact Hout
  iintro %f' Hout Hsx Hsw %hf
  subst hf
  unfold bodyOut
  isplitl [HO]; · iexact HO
  isplitl [Hzb]; · iexact Hzb
  isplitl [Hzr]; · iexact Hzr
  isplitl [Hzc]; · iexact Hzc
  isplitl [Hds]; · iexact Hds
  isplitl [Hz1]; · iexact Hz1
  isplitl [Hz2]; · iexact Hz2
  isplitl [Hrow]; · iexact Hrow
  isplitl [Hg]; · iexact Hg
  isplitl [Hw]; · iexact Hw
  isplitl [Hsx]; · iexact Hsx
  isplitl [Hsw]; · iexact Hsw
  iexact Hout

/-- The end of the body: the scales are read, the result is stored, and the two unused cells of shift 0 close. -/
theorem body_end {c : Dev nD} {ds : List Ix32} (hn : ds.Nodup) (hm : ds.toFinset = order.toFinset) (Q : PUnit → sProp 𝕄) (hQ : bodyOut m ρ c ⊢ Q ⟨⟩)
    {acc : IVec S128x2048 32} (ha : acc = accAt m ρ c) {h1 h2 h3}
    {h4 : (oM : Memref sig .tc .vmem S128x2048 .f32).view.LoadsAt (Rect.unit (s := S128x2048) ![0, 0] S128x2048.size h3).toLoadRect}
    {hp hp'}
    {h5 : ((oM : Memref sig .tc .vmem S128x2048 .f32).access (Rect.unit (s := S128x2048) ![0, 0] S128x2048.size h3)).Stores Finset.univ} {h6} :
    iprop(known m ρ K ∗ WaitSt m ρ c ds [] ∗ star (fun j => zero c (rcv j)) slots ∗ star (fun s => zero c (crd s)) order
        ∗ (gLoc c ↦{fullShare} gath m ρ c) ∗ wPts m ρ c ∗ rowPts m ρ c c ∗ zero c bar
        ∗ (sxPts m ρ c ∗ swPts m ρ c ∗ (∃ f, outPts c f)) ∗ pos0 c (snd 0) ∗ pos0 c (crd 0))
      ⊢ WP c (smemLoad (Memref.whole cc0_stg2_0) (Rect.unit (s := S1) ![0] S1.size h1) h2 hp >>= fun v874 : Elt F .f32 =>
          smemLoad (Memref.whole cc0_stg3_0) (Rect.unit (s := S1) ![0] S1.size h1) h2 hp' >>= fun v875 : Elt F .f32 =>
          Prog.lift (.load oM (Rect.unit (s := S128x2048) ![0, 0] S128x2048.size h3).toLoadRect h4) >>= fun _ : Vec F S128x2048 .f32 =>
          Prog.lift (.store oM (Rect.unit (s := S128x2048) ![0, 0] S128x2048.size h3) (k0_pay1 acc v874 v875) Finset.univ h5 h6) >>= fun _ => pure ⟨⟩) Q := by
  subst ha
  refine (end_order m ρ K hn hm).trans ?_
  refine BIBase.Entails.trans ?_ (fupd_wp _ _ _ _ Q)
  suffices hf : ∀ f, iprop(sxPts m ρ c ∗ swPts m ρ c ∗ outPts c f ∗ (∀ f', outPts c f' -∗ sxPts m ρ c -∗ swPts m ρ c -∗ ⌜f' = outAt m ρ c⌝ -∗ bodyOut m ρ c)) ⊢ WP c _ Q by
    iintro H
    imod H with ⟨%f, H⟩
    imodintro
    iapply (hf f)
    iexact H
  intro f
  refine scale_step head_lend ?_
  refine (show _ ⊢ iprop(swPts m ρ c ∗ sxPts m ρ c ∗ outPts c f ∗ (∀ f', outPts c f' -∗ sxPts m ρ c -∗ swPts m ρ c -∗ ⌜f' = outAt m ρ c⌝ -∗ bodyOut m ρ c)) from ?_).trans ?_
  · iintro ⟨H1, H2, H3⟩
    isplitl [H2]; · iexact H2
    isplitl [H1]; · iexact H1
    iexact H3
  refine scale_step head_lend ?_
  refine (show _ ⊢ iprop(outPts c f ∗ sxPts m ρ c ∗ swPts m ρ c ∗ (∀ f', outPts c f' -∗ sxPts m ρ c -∗ swPts m ρ c -∗ ⌜f' = outAt m ρ c⌝ -∗ bodyOut m ρ c)) from ?_).trans ?_
  · iintro ⟨H1, H2, H3, H4⟩
    isplitl [H3]; · iexact H3
    isplitl [H2]; · iexact H2
    isplitl [H1]; · iexact H1
    iexact H4
  refine out_step (part_done ?_)
  refine BIBase.Entails.trans ?_ hQ
  iintro ⟨H1, H2, H3, H4⟩
  iapply H4 $$ %_ H1 H2 H3
  ipureintro; rfl

end Cert.AllToAll

end
-- ==== Proof.Body.lean ====
/-
# The body of the kernel

The body's printed parts in order, each run by the step lemmas from one phase's state to the next.
-/
module

public import proofs.«01_k».proof.Proof.States

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

set_option maxHeartbeats 4000000 in
set_option maxRecDepth 10000 in
/-- The body, run from `bodyIn` to `bodyOut`. -/
theorem run_body (c : Dev nD) (Q : PUnit → sProp 𝕄) (hQ : bodyOut m ρ c ⊢ Q ⟨⟩) :
    iprop(known m ρ K ∗ bodyIn m ρ c) ⊢ WP c (cc0_body xM (Memref.isWhole_whole _) wM (Memref.isWhole_whole _) (Memref.whole cc0_stg2_0) (Memref.isWhole_whole _)
      (Memref.whole cc0_stg3_0) (Memref.isWhole_whole _) oM (Memref.isWhole_whole _) gM (Memref.isWhole_whole _) cc0_scratch1 cc0_scratch2 cc0_scratch3) Q := by
  rw [cc0_body_eq_skeleton]
  unfold cc0_body_skel bodyIn
  -- the barrier and the credit signals
  refine part_first rfl ?_
  rw [k0_part1_eq_skeleton]; unfold k0_part1_skel
  refine ask_device ?_
  refine bar_step m ρ K ?_
  refine (show _ ⊢ iprop(known m ρ K ∗ SigSt c order ∗ rowPts m ρ c c ∗ (∃ f, slotPts c c f) ∗ zero c bar
    ∗ star (fun s => iprop(CrRes c s ∗ SndRes m ρ c s)) order ∗ star (RcvPre c) slots ∗ star (fun s => pos0 c (snd s)) order
    ∗ wPts m ρ c ∗ (sxPts m ρ c ∗ swPts m ρ c ∗ (∃ f, outPts c f)) ∗ pos0 c (snd 0) ∗ pos0 c (crd 0)) from ?_).trans ?_
  · unfold SigSt
    iintro ⟨H1, ⟨H2, H3⟩, H4, H5, H6, H7⟩
    isplitl [H1]; · iexact H1
    isplitl [H2 H4]
    · isplitl [H2]; · iexact H2
      iexact H4
    isplitl [H6]; · iexact H6
    isplitl [H5]; · iexact H5
    isplitl [H3]; · iexact H3
    iexact H7
  rw [show SigSt (F := F) c order = SigSt c [1, 31, 2, 30, 3, 29, 4, 28, 5, 27, 6, 26, 7, 25, 8, 24, 9, 23, 10, 22, 11, 21, 12, 20, 13, 19, 14, 18, 15, 17, 16] from rfl]
  refine sig_step m ρ K (k0_dev1_eq c) (by decide) rfl ?_
  refine sig_step m ρ K (k0_dev2_eq c) (by decide) rfl ?_
  refine sig_step m ρ K (k0_dev3_eq c) (by decide) rfl ?_
  refine part_done ?_
  refine part_first rfl ?_
  rw [k0_part2_eq_skeleton]; unfold k0_part2_skel
  refine sig_step m ρ K (k0_dev4_eq c) (by decide) rfl ?_
  refine sig_step m ρ K (k0_dev5_eq c) (by decide) rfl ?_
  refine sig_step m ρ K (k0_dev6_eq c) (by decide) rfl ?_
  refine sig_step m ρ K (k0_dev7_eq c) (by decide) rfl ?_
  refine sig_step m ρ K (k0_dev8_eq c) (by decide) rfl ?_
  refine part_done ?_
  refine part_first rfl ?_
  rw [k0_part3_eq_skeleton]; unfold k0_part3_skel
  refine sig_step m ρ K (k0_dev9_eq c) (by decide) rfl ?_
  refine sig_step m ρ K (k0_dev10_eq c) (by decide) rfl ?_
  refine sig_step m ρ K (k0_dev11_eq c) (by decide) rfl ?_
  refine sig_step m ρ K (k0_dev12_eq c) (by decide) rfl ?_
  refine part_done ?_
  refine part_first rfl ?_
  rw [k0_part4_eq_skeleton]; unfold k0_part4_skel
  refine sig_step m ρ K (k0_dev13_eq c) (by decide) rfl ?_
  refine sig_step m ρ K (k0_dev14_eq c) (by decide) rfl ?_
  refine sig_step m ρ K (k0_dev15_eq c) (by decide) rfl ?_
  refine sig_step m ρ K (k0_dev16_eq c) (by decide) rfl ?_
  refine sig_step m ρ K (k0_dev17_eq c) (by decide) rfl ?_
  refine part_done ?_
  refine part_first rfl ?_
  rw [k0_part5_eq_skeleton]; unfold k0_part5_skel
  refine sig_step m ρ K (k0_dev18_eq c) (by decide) rfl ?_
  refine sig_step m ρ K (k0_dev19_eq c) (by decide) rfl ?_
  refine sig_step m ρ K (k0_dev20_eq c) (by decide) rfl ?_
  refine sig_step m ρ K (k0_dev21_eq c) (by decide) rfl ?_
  refine sig_step m ρ K (k0_dev22_eq c) (by decide) rfl ?_
  refine part_done ?_
  refine part_first rfl ?_
  rw [k0_part6_eq_skeleton]; unfold k0_part6_skel
  refine sig_step m ρ K (k0_dev23_eq c) (by decide) rfl ?_
  refine sig_step m ρ K (k0_dev24_eq c) (by decide) rfl ?_
  refine sig_step m ρ K (k0_dev25_eq c) (by decide) rfl ?_
  refine sig_step m ρ K (k0_dev26_eq c) (by decide) rfl ?_
  refine part_done ?_
  refine part_first rfl ?_
  rw [k0_part7_eq_skeleton]; unfold k0_part7_skel
  refine sig_step m ρ K (k0_dev27_eq c) (by decide) rfl ?_
  refine sig_step m ρ K (k0_dev28_eq c) (by decide) rfl ?_
  refine sig_step m ρ K (k0_dev29_eq c) (by decide) rfl ?_
  refine sig_step m ρ K (k0_dev30_eq c) (by decide) rfl ?_
  refine sig_step m ρ K (k0_dev31_eq c) (by decide) rfl ?_
  -- the local copy
  refine load_step (own_row (k0_off1_eq c)) rest_lend ?_
  refine part_done ?_
  refine part_first rfl ?_
  rw [k0_part8_eq_skeleton]; unfold k0_part8_skel
  refine (show _ ⊢ iprop(known m ρ K ∗ (∃ f, slotPts c c f) ∗ owesX c (oweR c order) ∗ rowPts m ρ c c ∗ zero c bar
    ∗ star (fun s => iprop(CrRes c s ∗ SndRes m ρ c s)) order ∗ star (RcvPre c) slots ∗ star (fun s => pos0 c (snd s)) order
    ∗ wPts m ρ c ∗ (sxPts m ρ c ∗ swPts m ρ c ∗ (∃ f, outPts c f)) ∗ pos0 c (snd 0) ∗ pos0 c (crd 0)) from ?_).trans ?_
  · unfold SigSt
    rw [show oweC (c : Dev nD) [] = 0 from rfl, add_zero]
    iintro ⟨H1, ⟨H2, -⟩, H3, H4, H5⟩
    isplitl [H1]; · iexact H1
    isplitl [H4]; · iexact H4
    isplitl [H2]; · iexact H2
    isplitl [H3]; · iexact H3
    iexact H5
  refine copy_step m ρ K (k0_off2_eq c) (k0_off1_eq c) ?_
  -- the transfers
  refine (show _ ⊢ iprop(known m ρ K ∗ SendSt m ρ c [] order ∗ star (RcvRes m ρ c) slots ∗ rowPts m ρ c c ∗ zero c bar ∗ star (fun s => pos0 c (snd s)) order
    ∗ wPts m ρ c ∗ (sxPts m ρ c ∗ swPts m ρ c ∗ (∃ f, outPts c f)) ∗ pos0 c (snd 0) ∗ pos0 c (crd 0)) from ?_).trans ?_
  · unfold SendSt
    iintro ⟨H1, H2, H3, H4, H5, H6, H7, H8⟩
    isplitl [H1]; · iexact H1
    isplitl [H3 H6]
    · isplitl [H3]; · iexact H3
      isplitl [H6]; · iexact H6
      iempintro
    isplitl [H2 H7]
    · iapply (rcv_ready m ρ c slots slots_nodup (mem_slots c))
      isplitl [H7]; · iexact H7
      iexact H2
    isplitl [H4]; · iexact H4
    isplitl [H5]; · iexact H5
    iexact H8
  rw [show SendSt m ρ c [] order = SendSt m ρ c [] [1, 31, 2, 30, 3, 29, 4, 28, 5, 27, 6, 26, 7, 25, 8, 24, 9, 23, 10, 22, 11, 21, 12, 20, 13, 19, 14, 18, 15, 17, 16] from rfl]
  refine credit_step m ρ K (by decide) rfl ?_
  refine send_step m ρ K (k0_dev32_eq c) (by decide) (off5_eq c _ (by decide)) (k0_off4_eq c) rfl (recv_sem (k0_off3_eq c)) ?_
  refine credit_step m ρ K (by decide) rfl ?_
  refine part_done ?_
  refine part_first rfl ?_
  rw [k0_part9_eq_skeleton]; unfold k0_part9_skel
  refine send_step m ρ K (k0_dev33_eq c) (by decide) (off5_eq c _ (by decide)) (k0_off4_eq c) rfl (recv_sem (k0_off3_eq c)) ?_
  refine credit_step m ρ K (by decide) rfl ?_
  refine send_step m ρ K (k0_dev34_eq c) (by decide) (off5_eq c _ (by decide)) (k0_off4_eq c) rfl (recv_sem (k0_off3_eq c)) ?_
  refine credit_step m ρ K (by decide) rfl ?_
  refine part_done ?_
  refine part_first rfl ?_
  rw [k0_part10_eq_skeleton]; unfold k0_part10_skel
  refine send_step m ρ K (k0_dev35_eq c) (by decide) (off5_eq c _ (by decide)) (k0_off4_eq c) rfl (recv_sem (k0_off3_eq c)) ?_
  refine credit_step m ρ K (by decide) rfl ?_
  refine send_step m ρ K (k0_dev36_eq c) (by decide) (off5_eq c _ (by decide)) (k0_off4_eq c) rfl (recv_sem (k0_off3_eq c)) ?_
  refine credit_step m ρ K (by decide) rfl ?_
  refine send_step m ρ K (k0_dev37_eq c) (by decide) (off5_eq c _ (by decide)) (k0_off4_eq c) rfl (recv_sem (k0_off3_eq c)) ?_
  refine part_done ?_
  refine part_first rfl ?_
  rw [k0_part11_eq_skeleton]; unfold k0_part11_skel
  refine credit_step m ρ K (by decide) rfl ?_
  refine send_step m ρ K (k0_dev38_eq c) (by decide) (off5_eq c _ (by decide)) (k0_off4_eq c) rfl (recv_sem (k0_off3_eq c)) ?_
  refine credit_step m ρ K (by decide) rfl ?_
  refine send_step m ρ K (k0_dev39_eq c) (by decide) (off5_eq c _ (by decide)) (k0_off4_eq c) rfl (recv_sem (k0_off3_eq c)) ?_
  refine part_done ?_
  refine part_first rfl ?_
  rw [k0_part12_eq_skeleton]; unfold k0_part12_skel
  refine credit_step m ρ K (by decide) rfl ?_
  refine send_step m ρ K (k0_dev40_eq c) (by decide) (off5_eq c _ (by decide)) (k0_off4_eq c) rfl (recv_sem (k0_off3_eq c)) ?_
  refine credit_step m ρ K (by decide) rfl ?_
  refine send_step m ρ K (k0_dev41_eq c) (by decide) (off5_eq c _ (by decide)) (k0_off4_eq c) rfl (recv_sem (k0_off3_eq c)) ?_
  refine credit_step m ρ K (by decide) rfl ?_
  refine part_done ?_
  refine part_first rfl ?_
  rw [k0_part13_eq_skeleton]; unfold k0_part13_skel
  refine send_step m ρ K (k0_dev42_eq c) (by decide) (off5_eq c _ (by decide)) (k0_off4_eq c) rfl (recv_sem (k0_off3_eq c)) ?_
  refine credit_step m ρ K (by decide) rfl ?_
  refine send_step m ρ K (k0_dev43_eq c) (by decide) (off5_eq c _ (by decide)) (k0_off4_eq c) rfl (recv_sem (k0_off3_eq c)) ?_
  refine credit_step m ρ K (by decide) rfl ?_
  refine part_done ?_
  refine part_first rfl ?_
  rw [k0_part14_eq_skeleton]; unfold k0_part14_skel
  refine send_step m ρ K (k0_dev44_eq c) (by decide) (off5_eq c _ (by decide)) (k0_off4_eq c) rfl (recv_sem (k0_off3_eq c)) ?_
  refine credit_step m ρ K (by decide) rfl ?_
  refine send_step m ρ K (k0_dev45_eq c) (by decide) (off5_eq c _ (by decide)) (k0_off4_eq c) rfl (recv_sem (k0_off3_eq c)) ?_
  refine credit_step m ρ K (by decide) rfl ?_
  refine part_done ?_
  refine part_first rfl ?_
  rw [k0_part15_eq_skeleton]; unfold k0_part15_skel
  refine send_step m ρ K (k0_dev46_eq c) (by decide) (off5_eq c _ (by decide)) (k0_off4_eq c) rfl (recv_sem (k0_off3_eq c)) ?_
  refine credit_step m ρ K (by decide) rfl ?_
  refine send_step m ρ K (k0_dev47_eq c) (by decide) (off5_eq c _ (by decide)) (k0_off4_eq c) rfl (recv_sem (k0_off3_eq c)) ?_
  refine credit_step m ρ K (by decide) rfl ?_
  refine part_done ?_
  refine part_first rfl ?_
  rw [k0_part16_eq_skeleton]; unfold k0_part16_skel
  refine send_step m ρ K (k0_dev48_eq c) (by decide) (off5_eq c _ (by decide)) (k0_off4_eq c) rfl (recv_sem (k0_off3_eq c)) ?_
  refine credit_step m ρ K (by decide) rfl ?_
  refine send_step m ρ K (k0_dev49_eq c) (by decide) (off5_eq c _ (by decide)) (k0_off4_eq c) rfl (recv_sem (k0_off3_eq c)) ?_
  refine credit_step m ρ K (by decide) rfl ?_
  refine part_done ?_
  refine part_first rfl ?_
  rw [k0_part17_eq_skeleton]; unfold k0_part17_skel
  refine send_step m ρ K (k0_dev50_eq c) (by decide) (off5_eq c _ (by decide)) (k0_off4_eq c) rfl (recv_sem (k0_off3_eq c)) ?_
  refine credit_step m ρ K (by decide) rfl ?_
  refine send_step m ρ K (k0_dev51_eq c) (by decide) (off5_eq c _ (by decide)) (k0_off4_eq c) rfl (recv_sem (k0_off3_eq c)) ?_
  refine credit_step m ρ K (by decide) rfl ?_
  refine send_step m ρ K (k0_dev52_eq c) (by decide) (off5_eq c _ (by decide)) (k0_off4_eq c) rfl (recv_sem (k0_off3_eq c)) ?_
  refine part_done ?_
  refine part_first rfl ?_
  rw [k0_part18_eq_skeleton]; unfold k0_part18_skel
  refine credit_step m ρ K (by decide) rfl ?_
  refine send_step m ρ K (k0_dev53_eq c) (by decide) (off5_eq c _ (by decide)) (k0_off4_eq c) rfl (recv_sem (k0_off3_eq c)) ?_
  refine credit_step m ρ K (by decide) rfl ?_
  refine send_step m ρ K (k0_dev54_eq c) (by decide) (off5_eq c _ (by decide)) (k0_off4_eq c) rfl (recv_sem (k0_off3_eq c)) ?_
  refine part_done ?_
  refine part_first rfl ?_
  rw [k0_part19_eq_skeleton]; unfold k0_part19_skel
  refine credit_step m ρ K (by decide) rfl ?_
  refine send_step m ρ K (k0_dev55_eq c) (by decide) (off5_eq c _ (by decide)) (k0_off4_eq c) rfl (recv_sem (k0_off3_eq c)) ?_
  refine credit_step m ρ K (by decide) rfl ?_
  refine send_step m ρ K (k0_dev56_eq c) (by decide) (off5_eq c _ (by decide)) (k0_off4_eq c) rfl (recv_sem (k0_off3_eq c)) ?_
  refine credit_step m ρ K (by decide) rfl ?_
  refine part_done ?_
  refine part_first rfl ?_
  rw [k0_part20_eq_skeleton]; unfold k0_part20_skel
  refine send_step m ρ K (k0_dev57_eq c) (by decide) (off5_eq c _ (by decide)) (k0_off4_eq c) rfl (recv_sem (k0_off3_eq c)) ?_
  refine credit_step m ρ K (by decide) rfl ?_
  refine send_step m ρ K (k0_dev58_eq c) (by decide) (off5_eq c _ (by decide)) (k0_off4_eq c) rfl (recv_sem (k0_off3_eq c)) ?_
  refine credit_step m ρ K (by decide) rfl ?_
  refine part_done ?_
  refine part_first rfl ?_
  rw [k0_part21_eq_skeleton]; unfold k0_part21_skel
  refine send_step m ρ K (k0_dev59_eq c) (by decide) (off5_eq c _ (by decide)) (k0_off4_eq c) rfl (recv_sem (k0_off3_eq c)) ?_
  refine credit_step m ρ K (by decide) rfl ?_
  refine send_step m ρ K (k0_dev60_eq c) (by decide) (off5_eq c _ (by decide)) (k0_off4_eq c) rfl (recv_sem (k0_off3_eq c)) ?_
  refine credit_step m ρ K (by decide) rfl ?_
  refine part_done ?_
  refine part_first rfl ?_
  rw [k0_part22_eq_skeleton]; unfold k0_part22_skel
  refine send_step m ρ K (k0_dev61_eq c) (by decide) (off5_eq c _ (by decide)) (k0_off4_eq c) rfl (recv_sem (k0_off3_eq c)) ?_
  refine credit_step m ρ K (by decide) rfl ?_
  refine send_step m ρ K (k0_dev62_eq c) (by decide) (off5_eq c _ (by decide)) (k0_off4_eq c) rfl (recv_sem (k0_off3_eq c)) ?_
  -- the receives and the four quarter products
  refine (show _ ⊢ iprop(known m ρ K ∗ RecvSt m ρ c 0 [] slots ∗ wPts m ρ c ∗ star (SentRes c) order ∗ star (fun s => pos0 c (snd s)) order
    ∗ rowPts m ρ c c ∗ zero c bar ∗ (sxPts m ρ c ∗ swPts m ρ c ∗ (∃ f, outPts c f)) ∗ pos0 c (snd 0) ∗ pos0 c (crd 0)) from ?_).trans ?_
  · rw [← star_members (SentRes (F := F) c) (l := [16, 17, 15, 18, 14, 19, 13, 20, 12, 21, 11, 22, 10, 23, 9, 24, 8, 25, 7, 26, 6, 27, 5, 28, 4, 29, 3, 30, 2, 31, 1]) (by decide) order_nodup (by decide)]
    unfold SendSt RecvSt
    rw [below_zero, show oweR (c : Dev nD) [] = 0 from rfl]
    iintro ⟨H1, ⟨H2, -, H3⟩, H4, H5, H6, H7, H8, H9⟩
    isplitl [H1]; · iexact H1
    isplitl [H2 H4]
    · isplitl [H2]; · iexact H2
      isplitr; · iempintro
      isplitl [H4]; · iexact H4
      iempintro
    isplitl [H8]; · iexact H8
    isplitl [H3]; · iexact H3
    isplitl [H7]; · iexact H7
    isplitl [H5]; · iexact H5
    isplitl [H6]; · iexact H6
    iexact H9
  rw [show RecvSt m ρ c 0 [] slots = RecvSt m ρ c 0 [] [0, 1, 2, 3, 4, 5, 6, 7, 8, 9, 10, 11, 12, 13, 14, 15, 16, 17, 18, 19, 20, 21, 22, 23, 24, 25, 26, 27, 28, 29, 30, 31] from rfl]
  refine recv_step m ρ K (guard_iff c 0) rfl rfl ?_
  refine recv_step m ρ K (guard_iff c 1) rfl rfl ?_
  refine recv_step m ρ K (guard_iff c 2) rfl rfl ?_
  refine part_done ?_
  refine part_first rfl ?_
  rw [k0_part23_eq_skeleton]; unfold k0_part23_skel
  refine recv_step m ρ K (guard_iff c 3) rfl rfl ?_
  refine recv_step m ρ K (guard_iff c 4) rfl rfl ?_
  refine recv_step m ρ K (guard_iff c 5) rfl rfl ?_
  refine recv_step m ρ K (guard_iff c 6) rfl rfl ?_
  refine recv_step m ρ K (guard_iff c 7) rfl rfl ?_
  refine load_step (quarter_sub _ (n := 8) (by decide)) (recv_lend m ρ K) ?_
  refine load_step (Finset.subset_univ _) rest_lend ?_
  refine recv_step m ρ K (guard_iff c 8) rfl rfl ?_
  refine recv_step m ρ K (guard_iff c 9) rfl rfl ?_
  refine recv_step m ρ K (guard_iff c 10) rfl rfl ?_
  refine recv_step m ρ K (guard_iff c 11) rfl rfl ?_
  refine part_done ?_
  refine part_first rfl ?_
  rw [k0_part24_eq_skeleton]; unfold k0_part24_skel
  refine recv_step m ρ K (guard_iff c 12) rfl rfl ?_
  refine recv_step m ρ K (guard_iff c 13) rfl rfl ?_
  refine recv_step m ρ K (guard_iff c 14) rfl rfl ?_
  refine recv_step m ρ K (guard_iff c 15) rfl rfl ?_
  refine load_step (quarter_sub _ (n := 16) (by decide)) (recv_lend m ρ K) ?_
  refine load_step (Finset.subset_univ _) rest_lend ?_
  refine recv_step m ρ K (guard_iff c 16) rfl rfl ?_
  refine recv_step m ρ K (guard_iff c 17) rfl rfl ?_
  refine recv_step m ρ K (guard_iff c 18) rfl rfl ?_
  refine recv_step m ρ K (guard_iff c 19) rfl rfl ?_
  refine part_done ?_
  refine part_first rfl ?_
  rw [k0_part25_eq_skeleton]; unfold k0_part25_skel
  refine recv_step m ρ K (guard_iff c 20) rfl rfl ?_
  refine recv_step m ρ K (guard_iff c 21) rfl rfl ?_
  refine recv_step m ρ K (guard_iff c 22) rfl rfl ?_
  refine recv_step m ρ K (guard_iff c 23) rfl rfl ?_
  refine load_step (quarter_sub _ (n := 24) (by decide)) (recv_lend m ρ K) ?_
  refine load_step (Finset.subset_univ _) rest_lend ?_
  refine recv_step m ρ K (guard_iff c 24) rfl rfl ?_
  refine recv_step m ρ K (guard_iff c 25) rfl rfl ?_
  refine recv_step m ρ K (guard_iff c 26) rfl rfl ?_
  refine recv_step m ρ K (guard_iff c 27) rfl rfl ?_
  refine part_done ?_
  refine part_first rfl ?_
  rw [k0_part26_eq_skeleton]; unfold k0_part26_skel
  refine recv_step m ρ K (guard_iff c 28) rfl rfl ?_
  refine recv_step m ρ K (guard_iff c 29) rfl rfl ?_
  refine recv_step m ρ K (guard_iff c 30) rfl rfl ?_
  refine recv_step m ρ K (guard_iff c 31) rfl rfl ?_
  refine load_step (quarter_sub _ (n := 32) (by decide)) (recv_lend m ρ K) ?_
  refine load_step (Finset.subset_univ _) rest_lend ?_
  -- the send waits
  refine (to_wait m ρ K (ds := [31, 30, 29, 28, 27, 26, 25, 24, 23, 22, 21, 20, 19, 18, 17, 16, 15, 14, 13, 12, 11, 10, 9, 8, 7, 6, 5, 4, 3, 2, 1, 0]) (by decide) (by decide)).trans ?_
  rw [show WaitSt m ρ c [] order = WaitSt m ρ c [] [1, 31, 2, 30, 3, 29, 4, 28, 5, 27, 6, 26, 7, 25, 8, 24, 9, 23, 10, 22, 11, 21, 12, 20, 13, 19, 14, 18, 15, 17, 16] from rfl]
  refine sent_step m ρ K (by decide) rfl ?_
  refine sent_step m ρ K (by decide) rfl ?_
  refine sent_step m ρ K (by decide) rfl ?_
  refine part_done ?_
  refine part_first rfl ?_
  rw [k0_part27_eq_skeleton]; unfold k0_part27_skel
  refine sent_step m ρ K (by decide) rfl ?_
  refine sent_step m ρ K (by decide) rfl ?_
  refine sent_step m ρ K (by decide) rfl ?_
  refine sent_step m ρ K (by decide) rfl ?_
  refine sent_step m ρ K (by decide) rfl ?_
  refine sent_step m ρ K (by decide) rfl ?_
  refine part_done ?_
  refine part_first rfl ?_
  rw [k0_part28_eq_skeleton]; unfold k0_part28_skel
  refine sent_step m ρ K (by decide) rfl ?_
  refine sent_step m ρ K (by decide) rfl ?_
  refine sent_step m ρ K (by decide) rfl ?_
  refine sent_step m ρ K (by decide) rfl ?_
  refine sent_step m ρ K (by decide) rfl ?_
  refine sent_step m ρ K (by decide) rfl ?_
  refine sent_step m ρ K (by decide) rfl ?_
  refine part_done ?_
  refine part_first rfl ?_
  rw [k0_part29_eq_skeleton]; unfold k0_part29_skel
  refine sent_step m ρ K (by decide) rfl ?_
  refine sent_step m ρ K (by decide) rfl ?_
  refine sent_step m ρ K (by decide) rfl ?_
  refine sent_step m ρ K (by decide) rfl ?_
  refine sent_step m ρ K (by decide) rfl ?_
  refine sent_step m ρ K (by decide) rfl ?_
  refine sent_step m ρ K (by decide) rfl ?_
  refine part_done ?_
  refine part_first rfl ?_
  rw [k0_part30_eq_skeleton]; unfold k0_part30_skel
  refine sent_step m ρ K (by decide) rfl ?_
  refine sent_step m ρ K (by decide) rfl ?_
  refine sent_step m ρ K (by decide) rfl ?_
  refine sent_step m ρ K (by decide) rfl ?_
  refine sent_step m ρ K (by decide) rfl ?_
  refine sent_step m ρ K (by decide) rfl ?_
  refine part_done ?_
  refine sent_step m ρ K (by decide) rfl ?_
  refine sent_step m ρ K (by decide) rfl ?_
  exact body_end m ρ K (ds := [16, 17, 15, 18, 14, 19, 13, 20, 12, 21, 11, 22, 10, 23, 9, 24, 8, 25, 7, 26, 6, 27, 5, 28, 4, 29, 3, 30, 2, 31, 1]) (by decide) (by decide) Q hQ rfl

end Cert.AllToAll

end
-- ==== Proof.Deal.lean ====
/-
# How launch resources reach the body, and how the body's are handed back

Per device: the positions of all its cells, the duty tokens of what it pays, the credit of what it waits for, its buffers.
-/
module

public import proofs.«01_k».proof.Proof.States

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

/-! ## Indices regrouped -/

/-- A star over a list, changed member by member. -/
theorem star_mem {Φ Ψ : Ix32 → sProp 𝕄} (l : List Ix32) (h : ∀ a ∈ l, Φ a ⊢ Ψ a) : star Φ l ⊢ star Ψ l := by
  induction l with
  | nil => exact BI.Entails.refl _
  | cons a l ih => exact BI.sep_mono (h a List.mem_cons_self) (ih fun b hb => h b (List.mem_cons_of_mem _ hb))

theorem order_ne : ∀ s ∈ order, s ≠ 0 := by decide

theorem add_sub_shift (c s : Ix32) : c + s - s = c := by
  refine Fin.ext ?_; have := c.isLt; have := s.isLt
  rw [Fin.sub_def, Fin.add_def]; dsimp only; omega
theorem add_sub_self (c s : Ix32) : c + s - c = s := by
  refine Fin.ext ?_; have := c.isLt; have := s.isLt
  rw [Fin.sub_def, Fin.add_def]; dsimp only; omega
theorem self_add_sub (c s : Ix32) : c + (s - c) = s := by
  refine Fin.ext ?_; have := c.isLt; have := s.isLt
  rw [Fin.sub_def, Fin.add_def]; dsimp only; omega
theorem sub_sub_self' (c s : Ix32) : c - (c - s) = s := by
  refine Fin.ext ?_; have := c.isLt; have := s.isLt
  rw [Fin.sub_def, Fin.sub_def]; dsimp only; omega
theorem sub_zero' (c : Ix32) : c - 0 = c := by
  refine Fin.ext ?_; have := c.isLt
  rw [Fin.sub_def]; dsimp only [Fin.val_zero]; omega
theorem add_zero' (c : Ix32) : c + 0 = c := by
  refine Fin.ext ?_; have := c.isLt
  rw [Fin.add_def]; dsimp only [Fin.val_zero]; omega
/-- Indices counted backwards from `c`. -/
def backEquiv (c : Ix32) : Ix32 ≃ Ix32 := ⟨fun s => c - s, fun s => c - s, sub_sub_self' c, sub_sub_self' c⟩
/-- Indices counted forwards from `c`. -/
def forthEquiv (c : Ix32) : Ix32 ≃ Ix32 := ⟨fun s => c + s, fun s => s - c, add_sub_self c, self_add_sub c⟩
/-- All indices moved by `s`. -/
def moveEquiv (s : Ix32) : Ix32 ≃ Ix32 := ⟨fun c => c + s, fun c => c - s, fun c => add_sub_shift c s, fun c => sub_add_shift c s⟩

theorem sub_ne (c : Ix32) {s : Ix32} (hs : s ∈ order) : ¬ c - s = c := fun h => order_ne s hs (by rw [← sub_sub_self' c s, h]; exact Fin.ext (by rw [Fin.sub_def]; show (32 - c.val + c.val) % 32 = 0; have := c.isLt; omega))

/-- All indices: 0 and the shifts. -/
theorem star_zero (Φ : Ix32 → sProp 𝕄) : bigSep Finset.univ Φ = iprop(Φ 0 ∗ star Φ order) := by
  rw [← star_cons, ← star_eq Φ (0 :: order) (by decide), show ((0 : Ix32) :: order).toFinset = Finset.univ by decide]
/-- All indices: `c` and those the shifts lead back to. -/
theorem star_back (c : Ix32) (Φ : Ix32 → sProp 𝕄) : bigSep Finset.univ Φ = iprop(Φ c ∗ star (fun s => Φ (c - s)) order) := by
  rw [bigSep_univ_equiv (backEquiv c) Φ, star_zero]
  show iprop(Φ (c - 0) ∗ _) = _
  rw [sub_zero']; rfl
/-- All indices: `c` and those the shifts lead to. -/
theorem star_forth (c : Ix32) (Φ : Ix32 → sProp 𝕄) : bigSep Finset.univ Φ = iprop(Φ c ∗ star (fun s => Φ (c + s)) order) := by
  rw [bigSep_univ_equiv (forthEquiv c) Φ, star_zero]
  show iprop(Φ (c + 0) ∗ _) = _
  rw [add_zero']; rfl
/-- All indices, in order. -/
theorem star_all (Φ : Ix32 → sProp 𝕄) : bigSep Finset.univ Φ = star Φ slots := by
  rw [← star_eq Φ slots slots_nodup, show slots.toFinset = Finset.univ by decide]

/-- All cells by their kinds. -/
theorem cells_split (Φ : Cell → sProp 𝕄) : bigSep Finset.univ Φ
    = iprop((bigSep Finset.univ fun k : Fin 3 × Ix32 => Φ (some k)) ∗ Φ bar) := by
  rw [bigSep_univ_equiv (Equiv.optionEquivSumPUnit (Fin 3 × Ix32)).symm Φ, BI.bigSep_univ_sum]
  congr 1
  rw [show (Finset.univ : Finset PUnit.{1}) = {⟨⟩} from rfl, bigSep_singleton]; rfl
/-- The own cells by their kinds. -/
theorem own_split (Φ : Fin 3 × Ix32 → sProp 𝕄) : bigSep Finset.univ Φ
    = iprop((bigSep Finset.univ fun s => Φ (0, s)) ∗ (bigSep Finset.univ fun s => Φ (1, s)) ∗ (bigSep Finset.univ fun s => Φ (2, s))) := by
  rw [bigSep_univ_prod, bigSep_univ_eq_bigSepL [(0 : Fin 3), 1, 2] (by decide) (by decide)]; rfl

/-! ## What a device is dealt -/

/-- The positions of all cells of device `c`. -/
def posAll (c : Dev nD) : sProp 𝕄 := bigSep Finset.univ fun k : Cell => pos0 c k
/-- All its cells' counters at zero. -/
def zeroOwn (c : Dev nD) : sProp 𝕄 := bigSep Finset.univ fun k : Fin 3 × Ix32 => zero c (some k)
/-- The duty tokens of the landings device `c` makes. -/
def payToks (c : Dev nD) : sProp 𝕄 :=
  iprop(tok c bar ∗ (bigSep Finset.univ fun s : Ix32 => tok c (snd s)) ∗ (bigSep Finset.univ fun s : Ix32 => tok (c + s) (rcv c))
    ∗ (bigSep Finset.univ fun s : Ix32 => tok (c - s) (crd s)))
/-- The credit device `c` waits for: its barrier's, and for every shift that of its credit cell and of a receive cell. -/
def waitsFor (c : Dev nD) : CellTallies nD τ sig Unit :=
  (∑ s ∈ order.toFinset, tallyAt (kcell c (rcv (c - s))) () N) + (∑ s ∈ order.toFinset, tallyAt (kcell c (crd s)) () 1) + tallyAt (kcell c bar) () 1

theorem waitsFor_cred (c : Dev nD) : (cred (waitsFor c) : sProp 𝕄)
    = iprop((star (fun s => credAt c (rcv (c - s))) order ∗ star (fun s => credAt c (crd s)) order) ∗ credAt c bar) := by
  unfold waitsFor
  rw [BI.Entails.antisymm (cred_add _ _).1 (cred_add _ _).2, BI.Entails.antisymm (cred_add _ _).1 (cred_add _ _).2,
    Pipeline.cred_finsetSum, Pipeline.cred_finsetSum, star_eq _ order order_nodup, star_eq _ order order_nodup]
  rfl

/-- What the devices owe is what they wait for. -/
theorem sum_owed : (∑ d : Dev nD, O₀ d) = ∑ d : Dev nD, waitsFor d := by
  have hR (c : Dev nD) (l : List Ix32) (hl : l.Nodup) : oweR c l = ∑ s ∈ l.toFinset, tallyAt (kcell (c + s) (rcv c)) () N := by
    induction l with
    | nil => rfl
    | cons s l ih =>
      have h := List.nodup_cons.mp hl
      rw [List.toFinset_cons, Finset.sum_insert (by rw [List.mem_toFinset]; exact h.1), ← ih h.2, add_comm]; rfl
  have hC (c : Dev nD) (l : List Ix32) (hl : l.Nodup) : oweC c l = ∑ s ∈ l.toFinset, tallyAt (kcell (c - s) (crd s)) () 1 := by
    induction l with
    | nil => rfl
    | cons s l ih =>
      have h := List.nodup_cons.mp hl
      rw [List.toFinset_cons, Finset.sum_insert (by rw [List.mem_toFinset]; exact h.1), ← ih h.2, add_comm]; rfl
  unfold O₀ waitsFor
  simp only [Finset.sum_add_distrib]
  congr 2
  · rw [Finset.sum_congr rfl fun d _ => hR d order order_nodup, Finset.sum_comm, Finset.sum_comm (s := Finset.univ)]
    refine Finset.sum_congr rfl fun s _ => ?_
    rw [← Equiv.sum_comp (moveEquiv s) fun d : Ix32 => (tallyAt (kcell d (rcv (d - s))) () N : CellTallies nD τ sig Unit)]
    refine Finset.sum_congr rfl fun d _ => ?_
    show _ = tallyAt (kcell (d + s) (rcv (d + s - s))) () N
    rw [add_sub_shift]
  · rw [Finset.sum_congr rfl fun d _ => hC d order order_nodup, Finset.sum_comm, Finset.sum_comm (s := Finset.univ)]
    refine Finset.sum_congr rfl fun s _ => ?_
    rw [← Equiv.sum_comp ((moveEquiv s).symm) fun d : Ix32 => (tallyAt (kcell d (crd s)) () 1 : CellTallies nD τ sig Unit)]
    rfl

theorem waitsFor_own (d : Dev nD) (g : GSem nD τ sig) (hg : waitsFor d g ≠ 0) : g.1 = (d.tc : Thread nD τ) := by
  by_contra h
  have hne (k : Cell) : g ≠ kcell d k := fun he => h (by rw [he])
  refine hg ?_
  unfold waitsFor
  rw [Pi.add_apply, Pi.add_apply, Finset.sum_apply, Finset.sum_apply, tallyAt_ne_cell (hne _), Finset.sum_eq_zero fun s _ => tallyAt_ne_cell (hne _) () N,
    Finset.sum_eq_zero fun s _ => tallyAt_ne_cell (hne _) () 1, add_zero, add_zero]

/-- The launch credit of device `c`. -/
theorem launch_cred (c : Dev nD) : (Pipeline.launchCred O₀ c : sProp 𝕄) = cred (waitsFor c) :=
  Pipeline.launchCred_of_sum O₀ waitsFor sum_owed waitsFor_own c

/-! ## Into the body -/

theorem body_in (c : Dev nD) :
    iprop(owesX c (O₀ c) ∗ posAll c ∗ payToks c ∗ cred (waitsFor c) ∗ (∃ f, gLoc c ↦{fullShare} f) ∗ (xLoc c ↦{fullShare} xstg m ρ c)
      ∗ wPts m ρ c ∗ sxPts m ρ c ∗ swPts m ρ c ∗ (∃ f, outPts c f)) ⊢ bodyIn m ρ c := by
  unfold posAll payToks bodyIn
  rw [waitsFor_cred, cells_split, own_split]
  rw [star_zero (fun s => pos0 (F := F) c (some (0, s))), star_back c (fun s => pos0 (F := F) c (some (1, s))), star_zero (fun s => pos0 (F := F) c (some (2, s))),
    star_zero (fun s => tok (F := F) c (snd s)), star_zero (fun s => tok (F := F) (c + s) (rcv c)), star_zero (fun s => tok (F := F) (c - s) (crd s)), rows_cut,
    star_forth c (fun r => rowPts m ρ c r), ← star_all (RcvPre c), star_back c (RcvPre (F := F) c)]
  iintro ⟨HO, ⟨⟨⟨Hps0, Hps⟩, ⟨Hprc, Hpr⟩, ⟨Hpc0, Hpc⟩⟩, Hpb⟩, ⟨Htb, ⟨-, Hts⟩, ⟨-, Htr⟩, ⟨-, Htc⟩⟩, ⟨⟨Hcr, Hcc⟩, Hcb⟩, ⟨%f, Hg⟩, ⟨Hrow, Hrows⟩, Hw, Hsx, Hsw, Hout⟩
  ihave Hg := (Entails.of_eq ((slots_cut c f).trans (star_back c fun j => slotPts c j f))) $$ Hg
  icases Hg with ⟨Hgc, Hgs⟩
  isplitl [HO Htb Hcb Hpb]
  · isplitl [HO]; · iexact HO
    isplitl [Htb]; · iexact Htb
    isplitl [Hcb]; · iexact Hcb
    iexact Hpb
  isplitl [Htc Hgs]
  · iapply ((star_sep (fun s => tok (c - s) (crd s)) (fun s => slotPts c (c - s) f) order).trans (star_mono order fun s => by
      unfold SigRes
      iintro ⟨H1, H2⟩
      isplitl [H1]; · iexact H1
      iexists f; iexact H2))
    isplitl [Htc]; · iexact Htc
    iexact Hgs
  isplitl [Hgc]; · iexists f; iexact Hgc
  isplitl [Hrow]; · iexact Hrow
  isplitl [Hcc Hpc Htr Hts Hrows]
  · iapply (star_sep (CrRes c) (SndRes m ρ c) order)
    isplitl [Hcc Hpc]
    · iapply (star_sep (fun s => credAt c (crd s)) (fun s => pos0 c (crd s)) order)
      isplitl [Hcc]; · iexact Hcc
      iexact Hpc
    · iapply (star_sep (fun s => tok (c + s) (rcv c)) (fun s => iprop(tok c (snd s) ∗ rowPts m ρ c (c + s))) order)
      isplitl [Htr]; · iexact Htr
      iapply (star_sep (fun s => tok c (snd s)) (fun s => rowPts m ρ c (c + s)) order)
      isplitl [Hts]; · iexact Hts
      iexact Hrows
  isplitl [Hprc Hpr Hcr]
  · isplitl [Hprc]
    · unfold RcvPre; rw [if_pos rfl]
      isplitl [Hprc]; · iexact Hprc
      iempintro
    · iapply ((star_sep (fun s => pos0 c (rcv (c - s))) (fun s => credAt c (rcv (c - s))) order).trans (star_mem order fun s hs => by
        unfold RcvPre; rw [if_neg (sub_ne c hs)]))
      isplitl [Hpr]; · iexact Hpr
      iexact Hcr
  isplitl [Hps]; · iexact Hps
  isplitl [Hw]; · iexact Hw
  isplitl [Hsx Hsw Hout]
  · isplitl [Hsx]; · iexact Hsx
    isplitl [Hsw]; · iexact Hsw
    iexact Hout
  isplitl [Hps0]; · iexact Hps0
  iexact Hpc0

/-! ## Out of the body -/

theorem body_out (c : Dev nD) : bodyOut m ρ c
    ⊢ iprop(owesX c 0 ∗ zero c bar ∗ zeroOwn c ∗ (∃ f, gLoc c ↦{fullShare} f) ∗ (xLoc c ↦{fullShare} xstg m ρ c)
      ∗ wPts m ρ c ∗ sxPts m ρ c ∗ swPts m ρ c ∗ outPts c (outAt m ρ c)) := by
  unfold bodyOut zeroOwn
  rw [own_split, star_zero (fun s => zero (F := F) c (some (0, s))), star_all (fun s => zero (F := F) c (some (1, s))), star_zero (fun s => zero (F := F) c (some (2, s))),
    rows_cut, star_forth c (fun r => rowPts m ρ c r)]
  iintro ⟨HO, Hzb, Hzr, Hzc, Hd, Hzs0, Hzc0, Hrow, Hg, Hw, Hsx, Hsw, Hout⟩
  unfold DoneRes
  ihave H := (star_unsep (fun s => zero c (snd s)) (fun s => rowPts m ρ c (c + s)) order) $$ Hd
  icases H with ⟨Hzs, Hrows⟩
  isplitl [HO]; · iexact HO
  isplitl [Hzb]; · iexact Hzb
  isplitl [Hzr Hzc Hzs0 Hzc0 Hzs]
  · isplitl [Hzs0 Hzs]
    · isplitl [Hzs0] <;> iassumption
    isplitl [Hzr]; · iexact Hzr
    isplitl [Hzc0] <;> iassumption
  isplitl [Hg]; · iexists _; iexact Hg
  isplitl [Hrow Hrows]
  · isplitl [Hrow] <;> iassumption
  isplitl [Hw]; · iexact Hw
  isplitl [Hsx]; · iexact Hsx
  isplitl [Hsw]; · iexact Hsw
  iexact Hout

/-! ## The tokens dealt to those who pay -/

/-- Every device's own cells' tokens, dealt to the devices that pay them. -/
theorem toks_dealt : (bigSep Finset.univ fun c : Dev nD => bigSep Finset.univ fun k : Cell => (tok c k : sProp 𝕄)) ⊢ bigSep Finset.univ fun c : Dev nD => payToks c := by
  unfold payToks
  rw [BI.bigSep_congr (s := Finset.univ) (fun (c : Dev nD) _ => (cells_split (fun k => tok (F := F) c k)).trans (congrArg (fun P => iprop(P ∗ tok c bar)) (own_split _))),
    bigSep_sep', bigSep_sep', bigSep_sep', bigSep_sep', bigSep_sep', bigSep_sep']
  have hr : (bigSep Finset.univ fun c : Dev nD => bigSep Finset.univ fun j : Ix32 => (tok c (rcv j) : sProp 𝕄))
      = bigSep Finset.univ fun c : Dev nD => bigSep Finset.univ fun s : Ix32 => tok (c + s) (rcv c) := by
    let e : Ix32 × Ix32 ≃ Ix32 × Ix32 := ⟨fun p => (p.1 + p.2, p.1), fun p => (p.2, p.1 - p.2), fun p => by
      show (p.1, p.1 + p.2 - p.1) = p; rw [add_sub_self], fun p => by
      show (p.2 + (p.1 - p.2), p.2) = p; rw [self_add_sub]⟩
    rw [← bigSep_univ_prod (fun p : Dev nD × Ix32 => (tok p.1 (rcv p.2) : sProp 𝕄)), bigSep_univ_equiv e, bigSep_univ_prod]; rfl
  have hc : (bigSep Finset.univ fun c : Dev nD => bigSep Finset.univ fun s : Ix32 => (tok c (crd s) : sProp 𝕄))
      = bigSep Finset.univ fun c : Dev nD => bigSep Finset.univ fun s : Ix32 => tok (c - s) (crd s) := by
    let e : Ix32 × Ix32 ≃ Ix32 × Ix32 := ⟨fun p => (p.1 - p.2, p.2), fun p => (p.1 + p.2, p.2), fun p => by
      show (p.1 - p.2 + p.2, p.2) = p; rw [show p.1 - p.2 + p.2 = p.1 from sub_add_shift p.1 p.2], fun p => by
      show (p.1 + p.2 - p.2, p.2) = p; rw [add_sub_shift]⟩
    rw [← bigSep_univ_prod (fun p : Dev nD × Ix32 => (tok p.1 (crd p.2) : sProp 𝕄)), bigSep_univ_equiv e, bigSep_univ_prod]; rfl
  rw [← hr, ← hc]
  iintro ⟨⟨H1, H2, H3⟩, H4⟩
  isplitl [H4]; · iexact H4
  isplitl [H1]; · iexact H1
  isplitl [H2]; · iexact H2
  iexact H3

end Cert.AllToAll

end
-- ==== Proof.Obligation.lean ====
/-
# The pipeline's data and the body's obligation

One point: the staged inputs stay, the output buffer ends at the computed block, the semaphores end at zero.
-/
module

public import proofs.«01_k».proof.Proof.Body
public import proofs.«01_k».proof.Proof.Deal

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c` starts from: the records, its positions, the tokens it pays with, the credit it waits for. -/
def start (c : Dev nD) : sProp 𝕄 := iprop((∃ K, known m ρ K) ∗ posAll c ∗ payToks c ∗ cred (waitsFor c))
/-- Before the body: that and the gathering buffer. -/
def Φ₀ (c : Dev nD) : sProp 𝕄 := iprop(start m ρ c ∗ ∃ f, gLoc c ↦{fullShare} f)
/-- After it: the gathering buffer and every semaphore at zero. -/
def Φ₁ (c : Dev nD) : sProp 𝕄 := iprop((∃ f, gLoc c ↦{fullShare} f) ∗ zeroOwn c ∗ zero c bar)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_in (w : Fin 5) (hw : w.val < 4) (t : Fin cfg0.N) : (cfg0.win w).fetch t = true := by
  rw [fin_N0 t]; revert w; decide

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole, at stated contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ ∗ stg c cc0_stg0_0 (xstg m ρ c) ∗ stg c cc0_stg1_0 (wstg m ρ c)
    ∗ stg c cc0_stg2_0 (sxstg m ρ c) ∗ stg c cc0_stg3_0 (swstg m ρ c) ∗ stg c cc0_stg4_0 (outAt m ρ c))

theorem body_post (c : Dev nD) : bodyOut m ρ c ⊢ bodyPost m ρ c := by
  refine BIBase.Entails.trans (body_out m ρ c) ?_
  unfold bodyPost Φ₁ owesX Dat.owesAt Pipeline.owesWithin
  rw [show (dats m ρ 0 c).owed t0_0.succ = 0 from rfl]
  iintro ⟨⟨%W, HO⟩, Hzb, Hz, Hg, Hx, Hw, Hsx, Hsw, Hout⟩
  isplitl [Hg Hz Hzb]
  · isplitl [Hg]; · iexact Hg
    isplitl [Hz] <;> iassumption
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

set_option maxRecDepth 4000 in
theorem body_pre (c : Dev nD) : bodyPre m ρ c ⊢ iprop((∃ K, known m ρ K) ∗ bodyIn m ρ c) := by
  unfold bodyPre Φ₀ start Dat.owesAt Pipeline.owesWithin
  iintro ⟨⟨⟨HK, Hp, Ht, Hc⟩, Hg⟩, ⟨%W, -, HO⟩, ⟨%d0, %g0, %h0, Hx⟩, ⟨%d1, %g1, %h1, Hw⟩, ⟨%d2, %g2, %h2, Hsx⟩, ⟨%d3, %g3, %h3, Hsw⟩, ⟨%d4, %g4, -, Hout⟩⟩
  have hx : g0 = xstg m ρ c := by rw [h0]; unfold Dat.before; rw [if_pos (fetch_in 0 (by decide) t0_0)]; rfl
  have hw : g1 = wstg m ρ c := by rw [h1]; unfold Dat.before; rw [if_pos (fetch_in 1 (by decide) t0_0)]; rfl
  have hsx : g2 = sxstg m ρ c := by rw [h2]; unfold Dat.before; rw [if_pos (fetch_in 2 (by decide) t0_0)]; rfl
  have hsw : g3 = swstg m ρ c := by rw [h3]; unfold Dat.before; rw [if_pos (fetch_in 3 (by decide) t0_0)]; rfl
  subst hx; subst hw; subst hsx; subst hsw
  rw [show (dats m ρ 0 c).owed t0_0.castSucc = O₀ c from rfl]
  isplitl [HK]; · iexact HK
  iapply (body_in m ρ c)
  isplitl [HO]; · unfold owesX; iexists W; iexact HO
  isplitl [Hp]; · iexact Hp
  isplitl [Ht]; · iexact Ht
  isplitl [Hc]; · iexact Hc
  isplitl [Hg]; · iexact Hg
  isplitl [Hx]; · iexact Hx
  isplitl [Hw]; · iexact Hw
  isplitl [Hsx]; · iexact Hsx
  isplitl [Hsw]; · iexact Hsw
  iexists g4; iexact Hout

/-- The kernel's body, from what the launch hands it. -/
theorem sound_body (c : Dev nD) :
    bodyPre m ρ c ⊢ WP c (cc0_body xM (Memref.isWhole_whole _) wM (Memref.isWhole_whole _) (Memref.whole cc0_stg2_0) (Memref.isWhole_whole _)
      (Memref.whole cc0_stg3_0) (Memref.isWhole_whole _) oM (Memref.isWhole_whole _) gM (Memref.isWhole_whole _) cc0_scratch1 cc0_scratch2 cc0_scratch3)
      (fun _ => bodyPost m ρ c) := by
  refine BIBase.Entails.trans (body_pre m ρ c) ?_
  iintro ⟨⟨%K, HK⟩, H⟩
  iapply (run_body m ρ K c (fun _ => bodyPost m ρ c) (body_post m ρ c))
  isplitl [HK] <;> iassumption

set_option maxRecDepth 100000 in
/-- The library's obligation on the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body xM (Memref.isWhole_whole _) wM (Memref.isWhole_whole _) (Memref.whole cc0_stg2_0) (Memref.isWhole_whole _)
      (Memref.whole cc0_stg3_0) (Memref.isWhole_whole _) oM (Memref.isWhole_whole _) gM (Memref.isWhole_whole _) cc0_scratch1 cc0_scratch2 cc0_scratch3)
    (fun _ => bodyPost m ρ c)
  exact sound_body m ρ c

end Cert.AllToAll

end
-- ==== Proof.Launch.lean ====
/-
# The launch

The cells' invariants are allocated from the semaphores at zero, the tokens dealt to those who pay, and the program run.
-/
module

public import proofs.«01_k».proof.Proof.Obligation
public import Idealize.ShloMosaic.Lib.Pipeline.CollectiveSegs
public import Idealize.ShloMosaic.Lib.Quiescent

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores. -/
def osem : Fin 3 × Ix32 → SemLoc sig := fun k => csem (some k)

theorem osem_scoped : ∀ k, (osem k).isScoped .tc = true := by decide
theorem osem_disj : ∀ k w s, osem k ≠ .dma ((spec0 w).sem s) := by
  have h : ∀ (w : Fin 5) (s : Fin (spec0 w).nbuf), ((spec0 w).sem s).val < 5 := by decide
  intro k w s he
  have h1 := kindOf_stage _ (h w s)
  rw [← he] at h1
  unfold osem at h1
  rw [kindOf_csem] at h1
  cases h1
theorem ownSemFacts : Pipeline.OwnSemFacts cfg0.spec osem :=
  ⟨osem_scoped, fun k k' h => Option.some.inj (csem_injective h), osem_disj⟩

theorem share_eq (c : Dev nD) (w : Fin cfg0.W) : (dats m ρ 0 c).share w = fullShare := by unfold Dat.share; split <;> rfl

/-! ## The cells and tokens at launch -/

/-- Every cell of every device. -/
def allCells : Finset (GSem nD τ sig) :=
  Finset.univ.map ⟨fun ck : Dev nD × Cell => kcell ck.1 ck.2, fun _ _ h => Prod.ext (kcell_inj h).1 (kcell_inj h).2⟩
/-- One duty token for each. -/
def allToks : Finset (GSem nD τ sig × ℕ × Unit) :=
  Finset.univ.map ⟨fun ck : Dev nD × Cell => (kcell ck.1 ck.2, 0, ()), fun _ _ h =>
    Prod.ext (kcell_inj (congrArg Prod.fst h)).1 (kcell_inj (congrArg Prod.fst h)).2⟩

/-- The ghost element at launch: the pipeline's, and all cells at round 0 with their tokens. -/
def u₀ : UU := (initOf (Pipeline.cells cfgs cellOf_inj) (Pipeline.launchToks cfgs cellOf_inj), initOf allCells allToks)

/-- What the launch element deals device `c`. -/
def G (c : Dev nD) : sProp 𝕄 :=
  iprop((bigSep Finset.univ fun k : Cell => roundState ER (sched m ρ) (kcell c k) 0)
    ∗ (bigSep Finset.univ fun k : Cell => iprop(pos0 c k ∗ reached ER (kcell c k) 0)) ∗ bigSep Finset.univ fun k : Cell => tok c k)
/-- What the exchange between the devices makes of it. -/
def G' (c : Dev nD) : sProp 𝕄 := iprop((∃ K, records m ρ K) ∗ posAll c ∗ payToks c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cell => Φ (kcell c k) := by
    unfold allCells; rw [bigSep_map, bigSep_univ_prod]; rfl
  have hT : bigSep allToks (fun x => (dutyTok ER x.1 x.2.1 x.2.2 : sProp 𝕄)) = bigSep Finset.univ fun c : Dev nD => bigSep Finset.univ fun k : Cell => tok c k := by
    unfold allToks; rw [bigSep_map, bigSep_univ_prod]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem ownSems0_zero (c : Dev nD) :
    (Pipeline.ownSems0 (Ix := Unit) (Name := ℕ) (U := UU) (Lvl := ℕ) (Val := Elt F) (τ := τ) osem c : sProp 𝕄) = zeroOwn c := rfl
theorem unscopedSems0_zero (c : Dev nD) : (unscopedSems0 c : sProp 𝕄) = zero c bar := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell c k)))
          ∗ (bigSep Finset.univ fun k : Cell => iprop(pos0 c k ∗ reached ER (kcell c k) 0)) ∗ bigSep Finset.univ fun k : Cell => tok c k) := by
  have hz : iprop(zeroOwn c ∗ zero c bar) = (bigSep Finset.univ fun k : Cell => zero c k : sProp 𝕄) := (cells_split _).symm
  unfold G
  rw [ownSems0_zero, unscopedSems0_zero]
  iintro ⟨Hos, Hus, Hst, Hat, Htok⟩
  ihave Hv := (Entails.of_eq hz) $$ [Hos Hus]
  · isplitl [Hos] <;> iassumption
  imod (show iprop((bigSep Finset.univ fun k : Cell => zero c k) ∗ bigSep Finset.univ fun k : Cell => roundState ER (sched m ρ) (kcell c k) 0)
      ⊢ (|={Set.univ}=> bigSep Finset.univ fun k => iprop(∃ κ : ℕ, cellInv ER (sched m ρ) κ (kcell c k)) : sProp 𝕄) from by
        rw [← bigSep_sep']
        exact (bigSep_mono fun k _ => (Rounds.body_intro ER (sched m ρ) (kcell c k)).trans inv_alloc).trans (bigSep_fupd _ _)) $$ [Hv Hst] with Hinv
  · isplitl [Hv] <;> iassumption
  imodintro
  isplitl [Hinv]; · iexact Hinv
  isplitl [Hat]; · iexact Hat
  iexact Htok

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem dealt_intro (K : Dev nD × Cell → ℕ) (c : Dev nD) : iprop(records m ρ K ∗ posAll c ∗ payToks c) ⊢ G' m ρ c := by
  unfold G'
  iintro ⟨HR, Hp, Ht⟩
  isplitl [HR]; · iexists K; iexact HR
  isplitl [Hp] <;> iassumption

theorem regroup :
    (bigSep Finset.univ fun c : Dev nD => iprop((bigSep Finset.univ fun k : Cell => iprop(∃ κ : ℕ, cellInv ER (sched m ρ) κ (kcell c k)))
          ∗ (bigSep Finset.univ fun k : Cell => iprop(pos0 c k ∗ reached ER (kcell c k) 0)) ∗ bigSep Finset.univ fun k : Cell => tok c k) : sProp 𝕄)
      ⊢ bigSep Finset.univ (G' m ρ) := by
  rw [bigSep_sep', bigSep_sep', ← bigSep_univ_prod (fun ck : Dev nD × Cell => iprop(∃ κ : ℕ, cellInv ER (sched m ρ) κ (kcell ck.1 ck.2))),
    bigSep_congr (s := Finset.univ) (fun (c : Dev nD) _ => bigSep_sep' Finset.univ (fun k : Cell => (pos0 c k : sProp 𝕄)) (fun k => reached ER (kcell c k) 0)),
    bigSep_sep', ← bigSep_univ_prod (fun ck : Dev nD × Cell => (reached ER (kcell ck.1 ck.2) 0 : sProp 𝕄))]
  iintro ⟨HI, ⟨Hat, #HR⟩, Htok⟩
  ihave HK := (BI.bigSep_exists_pi Finset.univ (fun (ck : Dev nD × Cell) (κ : ℕ) => (cellInv ER (sched m ρ) κ (kcell ck.1 ck.2) : sProp 𝕄))) $$ HI
  icases HK with ⟨%K, #HI⟩
  ihave Htk := (toks_dealt (F := F)) $$ Htok
  iapply (bigSep_with (R := records m ρ K) fun c _ => dealt_intro m ρ K c)
  isplitr
  · unfold records; isplitl; · iexact HI
    iexact HR
  · iapply (Entails.of_eq (bigSep_sep' Finset.univ (fun c : Dev nD => (posAll c : sProp 𝕄)) payToks).symm)
    unfold posAll
    isplitl [Hat]; · iexact Hat
    iexact Htk

/-- The exchange: every device's semaphores become cells, the tokens go to those who pay. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [launch_cred]
  unfold start G' known
  iintro ⟨-, Hlev, Hcr, -, ⟨%K, HR⟩, Hp, Ht⟩
  imodintro
  isplitl
  · isplitl [HR Hlev]
    · iexists K
      isplitl [HR]; · iexact HR
      iexact Hlev
    isplitl [Hp]; · iexact Hp
    isplitl [Ht]; · iexact Ht
    iexact Hcr
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_zero, unscopedSems0_zero]
  unfold Φ₁
  iintro ⟨Hr, Hz, HzB⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide) _ (by
      rcases t with ⟨_ | _, ht⟩
      · exact Or.inl rfl
      · exact Or.inr rfl)

/-! ## The run -/

/-- Each array's final contents. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On thirty-two devices, for any float values and from any memory with all counters zero, every weakly fair execution
    terminates; the arrays end at `finalA` and every semaphore counter at zero. -/
theorem run_all : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array ends as it began. -/
theorem finalA_in (c : Dev nD) (w : Fin 5) (hw : (cfg0.win w).isOut = false) :
    finalA m ρ c w = (s₀ m ρ).mem ((cfg0.win w).arr.view.loc (c : Thread nD τ)) :=
  (dats (F := F) m ρ 0 c).arrAt_in w hw _

end Cert.AllToAll

end
-- ==== Proof.Run.lean ====
/-
# The run's result

Each argument array ends as it began; the result array ends at what the body computes from the whole arguments.
-/
module

public import proofs.«01_k».proof.Proof.Launch

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A window's block is its whole array. -/
theorem read_whole0 (f : main_arg0.ty.Contents (Elt F)) : (win0_0.blk (0 : Fin 1)).view.read (Elt F) f = f :=
  Memref.read_access_unit_zero (Elt F) main_arg0 (funext fun a => by fin_cases a <;> decide) (fun a => by fin_cases a <;> decide) f
theorem read_whole1 (f : main_arg1.ty.Contents (Elt F)) : (win0_1.blk (0 : Fin 1)).view.read (Elt F) f = f :=
  Memref.read_access_unit_zero (Elt F) main_arg1 (funext fun a => by fin_cases a <;> decide) (fun a => by fin_cases a <;> decide) f
theorem read_whole2 (f : main_arg2.ty.Contents (Elt F)) : (win0_2.blk (0 : Fin 1)).view.read (Elt F) f = f :=
  Memref.read_access_unit_zero (Elt F) main_arg2 (funext fun a => by fin_cases a <;> decide) (fun a => by fin_cases a <;> decide) f
theorem read_whole3 (f : main_arg3.ty.Contents (Elt F)) : (win0_3.blk (0 : Fin 1)).view.read (Elt F) f = f :=
  Memref.read_access_unit_zero (Elt F) main_arg3 (funext fun a => by fin_cases a <;> decide) (fun a => by fin_cases a <;> decide) f
theorem read_whole4 (f : main_v1.ty.Contents (Elt F)) : (win0_4.blk (0 : Fin 1)).view.read (Elt F) f = f :=
  Memref.read_access_unit_zero (Elt F) main_v1 (funext fun a => by fin_cases a <;> decide) (fun a => by fin_cases a <;> decide) f

theorem xstg_eq (c : Dev nD) : xstg m ρ c = m ((c : Thread nD τ).loc main_arg0) := read_whole0 _
theorem wstg_eq (c : Dev nD) : wstg m ρ c = m ((c : Thread nD τ).loc main_arg1) := read_whole1 _
theorem sxstg_eq (c : Dev nD) : sxstg m ρ c = m ((c : Thread nD τ).loc main_arg2) := read_whole2 _
theorem swstg_eq (c : Dev nD) : swstg m ρ c = m ((c : Thread nD τ).loc main_arg3) := read_whole3 _

/-- The result array ends at what the body left in the output buffer. -/
theorem finalA_out (c : Dev nD) : finalA m ρ c (4 : Fin 5) = outAt m ρ c := by
  have h : (win0_4.blk (0 : Fin 1)).view.read (Elt F) (finalA m ρ c (4 : Fin 5)) = outAt m ρ c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  rw [read_whole4] at h
  exact h

/-- From any memory with all counters zero, every weakly fair execution terminates: the result array holds `outAt`, the
    arguments are unchanged, every counter is zero. -/
theorem run_main : θ_run defs (onTc (τ := τ) (main (F := F))) ⟨m, fun _ => 0, ρ⟩ (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c (4 : Fin 5)).trans (finalA_out m ρ c), (h.1 c (0 : Fin 5)).trans (finalA_in m ρ c 0 rfl),
    (h.1 c (1 : Fin 5)).trans (finalA_in m ρ c 1 rfl), (h.1 c (2 : Fin 5)).trans (finalA_in m ρ c 2 rfl), (h.1 c (3 : Fin 5)).trans (finalA_in m ρ c 3 rfl)⟩, h.2⟩)
    (run_all m ρ)

end Cert.AllToAll

end
-- ==== Proof.Arith.lean ====
/-
# Integer products and their sums

Facts about numbers only: a product of 8-bit matrices as a sum over the contracted coordinate, when the matrix unit
returns it exactly, the kernel's four partial sums as one sum, and the same sum among the extended reals.
-/
module

public import proofs.«01_k».proof.Proof.Gen.KernelIdeal.Skeleton
public import Idealize.ShloMosaic.Lib.IntMxu
public import Idealize.ShloMosaic.Lib.MatmulPlain

public import Idealize.ShloMosaic.Lib.ValueIdx

@[expose] public section

noncomputable section

namespace Cert.AllToAll

open Idealize.ShloMosaic Idealize.ShloMosaic.ValueIdx
open scoped BigOperators

/-! ## One product -/

/-- The exact product of two 8-bit matrices at row `r` and column `c`, as a sum over the contracted coordinate. -/
theorem dotI8_rows {M K N : ℕ} (g : IVec ⟨2, ![M, K]⟩ 8) (w : IVec ⟨2, ![K, N]⟩ 8) (r : Fin M) (c : Fin N) :
    dotI8 (DotDims.plain M K N) g w (ix2 r c) = ∑ k : Fin K, (g (ix2 r k)).toInt * (w (ix2 k c)).toInt := by
  unfold dotI8
  rw [← Equiv.sum_comp (DotDims.plainContr M K N).symm]
  refine Finset.sum_congr rfl fun k _ => ?_
  have hk := contrEquiv1_symm_val _ K (DotDims.plain_contr_rank M K N) (DotDims.plain_contr_size M K N) k
  have hl : (DotDims.plain M K N).lhsIdx (ix2 r c) ((DotDims.plainContr M K N).symm k) = ix2 r k :=
    funext fun a => Fin.ext (match a with | ⟨0, _⟩ => rfl | ⟨1, _⟩ => hk)
  have hr : (DotDims.plain M K N).rhsIdx (ix2 r c) ((DotDims.plainContr M K N).symm k) = ix2 k c :=
    funext fun a => Fin.ext (match a with | ⟨0, _⟩ => hk | ⟨1, _⟩ => rfl)
  rw [hl, hr]

/-- An 8-bit word other than the lowest one has magnitude at most 127. -/
theorem natAbs_le_of_ne_lowest (x : BitVec 8) (h : x ≠ 128#8) : x.toInt.natAbs ≤ 127 := by
  have h1 := BitVec.toInt_lt (x := x)
  have h2 := BitVec.le_toInt (x := x)
  have h3 : x.toInt ≠ -128 := fun e => h (BitVec.eq_of_toInt_eq (e.trans (by decide)))
  omega

/-- With a left operand free of the lowest word, the magnitudes of a product's terms total at most 127 · 128 a position. -/
theorem absDotI8_le_of_ne_lowest {sl sr so : Shape} (d : DotDims sl sr so) (g : IVec sl 8) (w : IVec sr 8) (j : so.Idx)
    (hg : ∀ i, g i ≠ 128#8) : absDotI8 d g w j ≤ d.contr.numel * (127 * 128) := by
  unfold absDotI8
  have hle : ∀ k ∈ (Finset.univ : Finset d.contr.Idx),
      ((g (d.lhsIdx j k)).toInt * (w (d.rhsIdx j k)).toInt).natAbs ≤ 127 * 128 := fun k _ => by
    rw [Int.natAbs_mul]
    exact Nat.mul_le_mul (natAbs_le_of_ne_lowest _ (hg _)) (natAbs_toInt_i8_le _)
  simpa only [Finset.card_univ, Shape.card_idx, smul_eq_mul] using Finset.sum_le_card_nsmul Finset.univ _ _ hle

/-- A quarter's contraction has 1024 positions. -/
theorem quarter_numel : (DotDims.plain 128 1024 2048).contr.numel = 1024 := by decide

/-- A quarter's terms total less than the matrix unit's bound. -/
theorem quarter_abs (g : IVec ⟨2, ![128, 1024]⟩ 8) (w : IVec ⟨2, ![1024, 2048]⟩ 8) (j : (⟨2, ![128, 2048]⟩ : Shape).Idx)
    (hg : ∀ i, g i ≠ 128#8) : absDotI8 (DotDims.plain 128 1024 2048) g w j ≤ 16646144 := by
  have h := absDotI8_le_of_ne_lowest (DotDims.plain 128 1024 2048) g w j hg
  rw [quarter_numel] at h
  exact h

/-- The matrix unit returns a quarter's product exactly when the left operand is free of the lowest word. -/
theorem quarter_exact (g : IVec ⟨2, ![128, 1024]⟩ 8) (w : IVec ⟨2, ![1024, 2048]⟩ 8) (acc : IVec ⟨2, ![128, 2048]⟩ 32)
    (h0 : ∀ j, acc j = 0) (hg : ∀ i, g i ≠ 128#8) (j : (⟨2, ![128, 2048]⟩ : Shape).Idx) :
    matmulI8 IntMxuNumerics.v7x (DotDims.plain 128 1024 2048) g w acc j =
      BitVec.ofInt 32 (dotI8 (DotDims.plain 128 1024 2048) g w j) :=
  matmulI8_exact _ _ g w acc j (h0 j) ((quarter_abs g w j hg).trans (by decide))

/-- A quarter's product has magnitude at most 2²⁴. -/
theorem quarter_small (g : IVec ⟨2, ![128, 1024]⟩ 8) (w : IVec ⟨2, ![1024, 2048]⟩ 8) (j : (⟨2, ![128, 2048]⟩ : Shape).Idx)
    (hg : ∀ i, g i ≠ 128#8) : (dotI8 (DotDims.plain 128 1024 2048) g w j).natAbs ≤ 2 ^ 24 :=
  ((natAbs_dotI8_le _ g w j).trans (quarter_abs g w j hg)).trans (by decide)

/-! ## Four products -/

/-- The kernel's sum of four words, the second added by two subtractions, is the word of the sum. -/
theorem four_words (a b c d : ℤ) :
    BitVec.ofInt 32 a - (0#32 - BitVec.ofInt 32 b) + BitVec.ofInt 32 c + BitVec.ofInt 32 d = BitVec.ofInt 32 (a + b + c + d) := by
  rw [BitVec.ofInt_add, BitVec.ofInt_add, BitVec.ofInt_add, BitVec.zero_sub, BitVec.sub_eq_add_neg, BitVec.neg_neg]

/-- Four numbers of magnitude at most 2²⁴ add up without leaving the 32-bit range. -/
theorem four_toInt (a b c d : ℤ) (ha : a.natAbs ≤ 2 ^ 24) (hb : b.natAbs ≤ 2 ^ 24) (hc : c.natAbs ≤ 2 ^ 24) (hd : d.natAbs ≤ 2 ^ 24) :
    (BitVec.ofInt 32 (a + b + c + d)).toInt = a + b + c + d := by
  rw [BitVec.toInt_ofInt]
  apply Int.bmod_eq_of_le <;> omega

/-- A sum over 4096 positions is the sum of its four quarters. -/
theorem sum_quarters (f : ℕ → ℤ) :
    ∑ k : Fin 4096, f k.val = ∑ k : Fin 1024, f (0 + k.val) + ∑ k : Fin 1024, f (1024 + k.val) + ∑ k : Fin 1024, f (2048 + k.val)
      + ∑ k : Fin 1024, f (3072 + k.val) := by
  rw [Fin.sum_univ_eq_sum_range f 4096, Fin.sum_univ_eq_sum_range (fun k => f (0 + k)) 1024, Fin.sum_univ_eq_sum_range (fun k => f (1024 + k)) 1024,
    Fin.sum_univ_eq_sum_range (fun k => f (2048 + k)) 1024, Fin.sum_univ_eq_sum_range (fun k => f (3072 + k)) 1024,
    show (4096 : ℕ) = 3072 + 1024 from rfl, Finset.sum_range_add f 3072 1024,
    show (3072 : ℕ) = 2048 + 1024 from rfl, Finset.sum_range_add f 2048 1024,
    show (2048 : ℕ) = 1024 + 1024 from rfl, Finset.sum_range_add f 1024 1024]
  simp only [Nat.zero_add]

/-! ## Among the extended reals -/

/-- A sum of products of integers, taken among the extended reals, is the integer sum. -/
theorem sum_ereal {n : ℕ} (f g : Fin n → ℤ) :
    ∑ k : Fin n, (((f k : ℝ) : EReal) * ((g k : ℝ) : EReal)) = (((∑ k : Fin n, f k * g k : ℤ) : ℝ) : EReal) := by
  classical
  refine Finset.induction_on (Finset.univ : Finset (Fin n)) (by simp) fun a s ha ih => ?_
  rw [Finset.sum_insert ha, Finset.sum_insert ha, ih, ← EReal.coe_mul, ← EReal.coe_add]
  push_cast
  rfl

/-- Reading an 8-bit word through 32 bits changes nothing. -/
theorem toInt_wide (x : BitVec 8) : (x.signExtend 32).toInt = x.toInt := BitVec.toInt_signExtend_of_le (by decide)

end Cert.AllToAll

end
-- ==== Proof.Value.lean ====
/-
# What the kernel computes

At the ideal values, for operands free of the lowest 8-bit word, each device's result is its block of rows of the product.
-/
module

public import proofs.«01_k».proof.Proof.Run
public import proofs.«01_k».proof.Proof.Arith
public import Idealize.ShloMosaic.Lib.Layout
public import Idealize.ShloMosaic.PureOps.Ideal

@[expose] public section

noncomputable section

namespace Cert.AllToAll

open Cert.KernelIdeal Cert.KernelIdeal.Gen
open Idealize.ShloMosaic Idealize.ShloMosaic.ValueIdx
open Idealize.ShloMosaic.TcCoe
open Idealize.SL.Sem
open scoped BigOperators

/-- The printed dimension numbers are those of a plain product. -/
theorem quarter_dims : dot_S128x1024_S1024x2048_S128x2048_1_0_0_1_n_n = DotDims.plain 128 1024 2048 := rfl

section Words
variable (g0 g1 g2 g3 : IVec ⟨2, ![128, 1024]⟩ 8) (w0 w1 w2 w3 : IVec ⟨2, ![1024, 2048]⟩ 8)

/-- The kernel's accumulator, read as a signed number, is the sum of the four quarter products. -/
theorem acc_toInt (h0 : ∀ i, g0 i ≠ 128#8) (h1 : ∀ i, g1 i ≠ 128#8) (h2 : ∀ i, g2 i ≠ 128#8) (h3 : ∀ i, g3 i ≠ 128#8)
    (j : (⟨2, ![128, 2048]⟩ : Shape).Idx) :
    (k0_pay6 (F := Ideal) (k0_pay5 (F := Ideal) (k0_pay4 (F := Ideal) (k0_pay3 (F := Ideal) g0 w0) g1 w1) g2 w2) g3 w3 j).toInt =
      dotI8 (DotDims.plain 128 1024 2048) g0 w0 j + dotI8 (DotDims.plain 128 1024 2048) g1 w1 j
        + dotI8 (DotDims.plain 128 1024 2048) g2 w2 j + dotI8 (DotDims.plain 128 1024 2048) g3 w3 j := by
  have e : k0_pay6 (F := Ideal) (k0_pay5 (F := Ideal) (k0_pay4 (F := Ideal) (k0_pay3 (F := Ideal) g0 w0) g1 w1) g2 w2) g3 w3 j =
      matmulI8 IntMxuNumerics.v7x (DotDims.plain 128 1024 2048) g0 (shapeCast S1024x2048 w0 shapeCasts_S1024x2048_S1024x2048) (constantI S128x2048 32 0#32) j
        - (0#32 - matmulI8 IntMxuNumerics.v7x (DotDims.plain 128 1024 2048) g1 (shapeCast S1024x2048 w1 shapeCasts_S1024x2048_S1024x2048) (constantI S128x2048 32 0#32) j)
        + matmulI8 IntMxuNumerics.v7x (DotDims.plain 128 1024 2048) g2 (shapeCast S1024x2048 w2 shapeCasts_S1024x2048_S1024x2048) (constantI S128x2048 32 0#32) j
        + matmulI8 IntMxuNumerics.v7x (DotDims.plain 128 1024 2048) g3 (shapeCast S1024x2048 w3 shapeCasts_S1024x2048_S1024x2048) (constantI S128x2048 32 0#32) j := rfl
  rw [e, quarter_exact g0 _ (constantI S128x2048 32 0#32) (fun _ => rfl) h0, quarter_exact g1 _ (constantI S128x2048 32 0#32) (fun _ => rfl) h1, quarter_exact g2 _ (constantI S128x2048 32 0#32) (fun _ => rfl) h2,
    quarter_exact g3 _ (constantI S128x2048 32 0#32) (fun _ => rfl) h3, four_words, shapeCast_self, shapeCast_self, shapeCast_self, shapeCast_self]
  exact four_toInt _ _ _ _ (quarter_small g0 w0 j h0) (quarter_small g1 w1 j h1) (quarter_small g2 w2 j h2) (quarter_small g3 w3 j h3)

end Words

variable (m : (ℓ : Loc nD τ sig) → Buf (Elt Ideal) ℓ) (ρ : Dev nD → PrngReg)

/-- A load of columns `o` to `o + 1023` reads the gathered contents there. -/
theorem gRd_apply (c : Dev nD) (o : ℕ) (h) (ho : o + 1024 ≤ 4096) (r : Fin 128) (k : Fin 1024) :
    gRd m ρ c o h (ix2 r k) = gath m ρ c (ix2 r (⟨o + k.val, by have := k.isLt; omega⟩ : Fin 4096)) := by
  refine congrArg (gath m ρ c) (funext fun a => Fin.ext ?_)
  match a with
  | ⟨0, _⟩ => show 0 + 1 * r.val = r.val; omega
  | ⟨1, _⟩ => show o + 1 * k.val = o + k.val; omega

/-- A load of rows `o` to `o + 1023` reads the weights there. -/
theorem wRd_apply (c : Dev nD) (o : ℕ) (h) (ho : o + 1024 ≤ 4096) (k : Fin 1024) (n : Fin 2048) :
    wRd m ρ c o h (ix2 k n) = wstg m ρ c (ix2 (⟨o + k.val, by have := k.isLt; omega⟩ : Fin 4096) n) := by
  refine congrArg (wstg m ρ c) (funext fun a => Fin.ext ?_)
  match a with
  | ⟨0, _⟩ => show o + 1 * k.val = o + k.val; omega
  | ⟨1, _⟩ => show 0 + 1 * n.val = n.val; omega

/-- The two scales are the operands' only elements. -/
theorem sxRd_apply (c : Dev nD) : sxRd m ρ c = sxstg m ρ c (ix1 (0 : Fin 1)) := by
  refine congrArg (sxstg m ρ c) (funext fun a => Fin.ext ?_)
  match a with
  | ⟨0, _⟩ => rfl
theorem swRd_apply (c : Dev nD) : swRd m ρ c = swstg m ρ c (ix1 (0 : Fin 1)) := by
  refine congrArg (swstg m ρ c) (funext fun a => Fin.ext ?_)
  match a with
  | ⟨0, _⟩ => rfl

/-- The kernel's whole product at row `R` and column `n`, as an integer. -/
def product (X : IVec ⟨2, ![4096, 4096]⟩ 8) (W : IVec ⟨2, ![4096, 2048]⟩ 8) (R : Fin 4096) (n : Fin 2048) : ℤ :=
  ∑ k : Fin 4096, (X (ix2 R k)).toInt * (W (ix2 k n)).toInt

/-- The scaled product, cut below at zero. -/
def scaled (p : ℤ) (a b : EReal) : EReal := max (((p : ℝ) : EReal) * (a * b)) 0

/-- The payload's result at an element: the accumulator's signed value, scaled and cut below at zero. -/
theorem pay1_apply (acc : IVec S128x2048 32) (a b : Elt Ideal .f32) (j : S128x2048.Idx) :
    k0_pay1 (F := Ideal) acc a b j = scaled (acc j).toInt a b := by
  show max ((((acc j).toInt : ℝ) : EReal) * (a * b)) (Ideal.ofBits .f32 0x00000000#32) = _
  rw [Ideal.ofBits_zero_f32]
  rfl

/-- Row `r` of device `c`'s block of the result is row `128 c + r` of the whole. -/
def bigRow (c : Dev nD) (r : Fin 128) : Fin 4096 := ⟨128 * c.val + r.val, by
  have h1 : c.val < 32 := c.isLt
  have h2 := r.isLt
  omega⟩

/-- The whole left operand is cut along its columns into the 32 devices' blocks. -/
theorem cut_columns : Layout.Tiles ⟨2, ![4096, 128]⟩ ⟨2, ![4096, 4096]⟩ 1 32 := by decide

section Whole
variable (X : IVec ⟨2, ![4096, 4096]⟩ 8) (W : IVec ⟨2, ![4096, 2048]⟩ 8)
  (hX : ∀ c : Dev nD, m ((c.tc : Thread nD τ).loc main_arg0) = Layout.block ⟨2, ![4096, 128]⟩ ⟨2, ![4096, 4096]⟩ 1 32 c X cut_columns)
  (hW : ∀ c : Dev nD, m ((c.tc : Thread nD τ).loc main_arg1) = W)

include hX in
/-- What device `c` gathers is its block of rows of the whole left operand. -/
theorem gath_apply (c : Dev nD) (r : Fin 128) (k : Fin 4096) : gath m ρ c (ix2 r k) = X (ix2 (bigRow c r) k) := by
  unfold gath
  rw [xstg_eq, hX]
  refine congrArg X (funext fun a => Fin.ext ?_)
  match a with
  | ⟨0, _⟩ => rfl
  | ⟨1, _⟩ =>
    show k.val / 128 * 128 + k.val % 128 = k.val
    omega

/-- What device `c` gathers is free of the lowest word when every device's block is. -/
theorem gath_ne (hp : ∀ (d : Dev nD) (i : S4096x128.Idx), (m ((d.tc : Thread nD τ).loc main_arg0) : IVec S4096x128 8) i ≠ 128#8)
    (c : Dev nD) (i : S128x4096.Idx) : (gath m ρ c : IVec S128x4096 8) i ≠ 128#8 := by
  unfold gath
  rw [xstg_eq]
  exact hp _ _

include hX hW in
/-- One quarter of the product. -/
theorem quarter_sum (c : Dev nD) (r : Fin 128) (n : Fin 2048) (o : ℕ) (hg hw) (ho : o + 1024 ≤ 4096) (f : ℕ → ℤ)
    (hf : ∀ k : Fin 4096, f k.val = (X (ix2 (bigRow c r) k)).toInt * (W (ix2 k n)).toInt) :
    dotI8 (DotDims.plain 128 1024 2048) (gRd m ρ c o hg) (wRd m ρ c o hw) (ix2 r n) = ∑ k : Fin 1024, f (o + k.val) := by
  rw [dotI8_rows]
  refine Finset.sum_congr rfl fun k _ => ?_
  rw [gRd_apply m ρ c o hg ho r k, wRd_apply m ρ c o hw ho k n, gath_apply m ρ X hX, wstg_eq, hW]
  exact (hf ⟨o + k.val, by have := k.isLt; omega⟩).symm

include hX hW in
/-- The accumulator on device `c`, read as signed numbers, is its block of rows of the whole product. -/
theorem acc_value (hp : ∀ (d : Dev nD) (i : S4096x128.Idx), (m ((d.tc : Thread nD τ).loc main_arg0) : IVec S4096x128 8) i ≠ 128#8)
    (c : Dev nD) (r : Fin 128) (n : Fin 2048) : (accAt m ρ c (ix2 r n)).toInt = product X W (bigRow c r) n := by
  have hne : ∀ o h (i : S128x1024.Idx), (gRd m ρ c o h : IVec S128x1024 8) i ≠ 128#8 := fun o h i => gath_ne m ρ hp c _
  obtain ⟨f, hf⟩ : ∃ f : ℕ → ℤ, ∀ k : Fin 4096, f k.val = (X (ix2 (bigRow c r) k)).toInt * (W (ix2 k n)).toInt :=
    ⟨fun k => if h : k < 4096 then (X (ix2 (bigRow c r) ⟨k, h⟩)).toInt * (W (ix2 ⟨k, h⟩ n)).toInt else 0, fun k => dif_pos k.isLt⟩
  unfold accAt
  rw [acc_toInt _ _ _ _ _ _ _ _ (hne _ _) (hne _ _) (hne _ _) (hne _ _),
    quarter_sum m ρ X W hX hW c r n 0 _ _ (by decide) f hf, quarter_sum m ρ X W hX hW c r n 1024 _ _ (by decide) f hf,
    quarter_sum m ρ X W hX hW c r n 2048 _ _ (by decide) f hf, quarter_sum m ρ X W hX hW c r n 3072 _ _ (by decide) f hf,
    ← sum_quarters]
  exact Finset.sum_congr rfl fun k _ => hf k

include hX hW in
/-- The kernel's result on device `c`: its block of rows of the product, scaled and cut below at zero. -/
theorem out_value (hp : ∀ (d : Dev nD) (i : S4096x128.Idx), (m ((d.tc : Thread nD τ).loc main_arg0) : IVec S4096x128 8) i ≠ 128#8)
    (c : Dev nD) (r : Fin 128) (n : Fin 2048) :
    outAt m ρ c (ix2 r n) = scaled (product X W (bigRow c r) n) (m ((c.tc : Thread nD τ).loc main_arg2) (ix1 (0 : Fin 1)))
      (m ((c.tc : Thread nD τ).loc main_arg3) (ix1 (0 : Fin 1))) := by
  unfold outAt
  rw [pay1_apply, acc_value m ρ X W hX hW hp, sxRd_apply, swRd_apply, sxstg_eq, swstg_eq]

end Whole

end Cert.AllToAll

end
-- ==== Proof.Reference.lean ====
/-
# The reference

What the reference returns at an element, and its frame.
-/
module

public import proofs.«01_k».proof.Defs
public import proofs.«01_k».proof.Proof.Value
public import proofs.«01_k».proof.Proof.Gen.ReferenceIdeal
public import proofs.«01_k».proof.Proof.Gen.ReferenceIdeal.Run
public import Idealize.ShloMosaic.Lib.Quiescent
public import Idealize.ShloMosaic.Lib.StackMember

@[expose] public section

noncomputable section

namespace Cert.AllToAll

open Idealize.ShloMosaic Idealize.ShloMosaic.ValueIdx
open Idealize.ShloMosaic.TcCoe
open Idealize.SL.Sem
open Cert.ReferenceIdeal Cert.ReferenceIdeal.Gen
open scoped BigOperators

/-- The reference's result as a function of its four operands. -/
def refOut (X : IVec S4096x4096 8) (W : IVec S4096x2048 8) (a b : FVec Ideal S1 .f32) : FVec Ideal S4096x2048 .f32 :=
  maximumf (mulf (Host.dotGeneral dot_S4096x4096_S4096x2048_S4096x2048_1_0_0_1_n_n none
      (sitofp .f32 (extsi 32 X natLt_8_32)) (sitofp .f32 (extsi 32 W natLt_8_32)))
    (broadcastInDim S4096x2048 ![0, 1] bcast_S1x1_S4096x2048_0_1 (broadcastInDim S1x1 ![1] bcast_S1_S1x1_1 (mulf a b))))
    (broadcastInDim S4096x2048 ![] bcast_S_S4096x2048 (constant S_ .f32 0x00000000#32))

/-- The printed dimension numbers are those of a plain product. -/
theorem whole_dims : dot_S4096x4096_S4096x2048_S4096x2048_1_0_0_1_n_n = DotDims.plain 4096 4096 2048 := rfl

/-- The reference's product, at an element, is the integer product. -/
theorem ref_product (X : IVec S4096x4096 8) (W : IVec S4096x2048 8) (R : Fin 4096) (n : Fin 2048) :
    Host.dotGeneral (F := Ideal) (DotDims.plain 4096 4096 2048) none
      (sitofp (F := Ideal) .f32 (extsi 32 X natLt_8_32)) (sitofp (F := Ideal) .f32 (extsi 32 W natLt_8_32)) (ix2 R n) =
      (((product X W R n : ℤ) : ℝ) : EReal) := by
  rw [Idealize.ShloMosaic.StackMember.dotGeneral_plain_apply]
  unfold product
  rw [← sum_ereal]
  refine Finset.sum_congr rfl fun k _ => ?_
  show ((((X (ix2 R k)).signExtend 32).toInt : ℝ) : EReal) * ((((W (ix2 k n)).signExtend 32).toInt : ℝ) : EReal) = _
  rw [toInt_wide, toInt_wide]

/-- The reference's result, at an element: the integer product, scaled and cut below at zero. -/
theorem refOut_apply (X : IVec S4096x4096 8) (W : IVec S4096x2048 8) (a b : FVec Ideal S1 .f32) (R : Fin 4096) (n : Fin 2048) :
    refOut X W a b (ix2 R n) = scaled (product X W R n) (a (ix1 (0 : Fin 1))) (b (ix1 (0 : Fin 1))) := by
  unfold refOut
  rw [whole_dims]
  show max (Host.dotGeneral (F := Ideal) (DotDims.plain 4096 4096 2048) none
      (sitofp (F := Ideal) .f32 (extsi 32 X natLt_8_32)) (sitofp (F := Ideal) .f32 (extsi 32 W natLt_8_32)) (ix2 R n)
      * (a _ * b _)) (Ideal.ofBits .f32 0x00000000#32) = _
  rw [ref_product, Ideal.ofBits_zero_f32]
  unfold scaled
  have hi : ∀ i : S1.Idx, i = ix1 (0 : Fin 1) := fun i => funext fun ax => Fin.ext (by
    match ax with
    | ⟨0, h⟩ => have := (i ⟨0, h⟩).isLt; show (i ⟨0, h⟩).val = 0; exact Nat.lt_one_iff.mp this)
  refine congrArg (fun z => max ((((product X W R n : ℤ) : ℝ) : EReal) * z) 0) ?_
  exact congrArg₂ (· * ·) (congrArg a (hi _)) (congrArg b (hi _))

variable (m : (ℓ : Loc nD τ sig) → Buf (Elt Ideal) ℓ) (ρ : Dev nD → PrngReg)

/-- The reference runs, leaves its arguments unchanged and every counter at zero, and returns `refOut` of its arguments. -/
theorem run_ref :
    θ_run (defs (F := Ideal)) (onTc (τ := τ) (main (F := Ideal))) ⟨m, fun _ => 0, ρ⟩ fun r => (∀ c : Dev nD,
      r.2.mem ((c.tc : Thread nD τ).loc main_v10) = refOut (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨h, sem_eq_zero_of_no_sems (by decide) r.2⟩) (Cert.ReferenceIdeal.Value.run (F := Ideal) m ρ)

/-- The reference's frame. -/
theorem frame_ref : Cert.quiescent_ReferenceIdeal (hReferenceIdeal := Cert.ReferenceIdeal.Gen.facts) := fun m ρ _ =>
  (θ_run defs _ _).mono (fun r h => ⟨fun c => (h.1 c).2, h.2⟩) (run_ref m ρ)

end Cert.AllToAll

end
-- ==== Proof.Frames.lean ====
/-
# The kernel's frames

Both programs have the same text, so one run serves both.
-/
module

public import proofs.«01_k».proof.Proof.Run
public import proofs.«01_k».proof.Defs
public import proofs.«01_k».proof.Proof.Gen.Kernel

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 100000 in
set_option maxHeartbeats 0 in
/-- The two programs' bodies are the same. -/
theorem body_same : Cert.Kernel.cc0_body (F := F) = Cert.KernelIdeal.cc0_body (F := F) := rfl

set_option maxRecDepth 100000 in
/-- So are their kernel tables, -/
theorem defs₀_same : Cert.Kernel.defs₀ (F := F) = Cert.KernelIdeal.defs₀ (F := F) := by
  refine congrArg Defs.onTc (funext fun l => funext fun a => ?_)
  obtain ⟨l, hl⟩ := l
  cases l with
  | succ n => exact absurd hl (Nat.not_lt.2 (Nat.le_add_left _ _))
  | zero =>
    obtain ⟨t, s⟩ := a
    show Cert.Kernel.cc0_body (F := F) _ _ _ _ _ _ _ _ _ _ _ _ _ _ _ = Cert.KernelIdeal.cc0_body (F := F) _ _ _ _ _ _ _ _ _ _ _ _ _ _ _
    rw [body_same]

set_option maxRecDepth 100000 in
/-- the tables of the whole programs, -/
theorem defs_same : Cert.Kernel.defs (F := F) = Cert.KernelIdeal.defs (F := F) :=
  congrArg (Pipeline.defs (Cert.KernelIdeal.pcfgs (F := F))) defs₀_same
/-- and their entry points. -/
theorem main_same : Cert.Kernel.main (F := F) = Cert.KernelIdeal.main (F := F) := rfl

set_option maxRecDepth 100000 in
/-- The kernel's frame. -/
theorem frame_kernel : Cert.quiescent_Kernel (hKernel := Cert.Kernel.Gen.facts) := by
  intro m ρ _
  rw [defs_same, main_same]
  exact (θ_run (Cert.KernelIdeal.defs (F := Bits)) _ _).mono (fun _ h => ⟨fun c => (h.1 c).2, h.2⟩) (run_main (F := Bits) m ρ)
/-- Its frame at the ideal instance. -/
theorem frame_ideal : Cert.quiescent_KernelIdeal (hKernelIdeal := Cert.KernelIdeal.Gen.facts) :=
  fun m ρ _ => (θ_run defs _ _).mono (fun _ h => ⟨fun c => (h.1 c).2, h.2⟩) (run_main (F := Ideal) m ρ)

end Cert.AllToAll

end
-- ==== Proof.Equal.lean ====
/-
# The kernel against the reference

The devices' results are the blocks of rows of the reference's result.
-/
module

public import proofs.«01_k».proof.Proof.Value
public import proofs.«01_k».proof.Proof.Reference
public import proofs.«01_k».proof.Proof.Frames

@[expose] public section

noncomputable section

namespace Cert.AllToAll

open Idealize.ShloMosaic Idealize.ShloMosaic.ValueIdx
open Idealize.ShloMosaic.TcCoe
open Idealize.SL.Sem

/-- The side condition of the precondition on a device's block. -/
theorem pre_block_facts : Cert.Pre_x_not_lowest_KernelIdeal.Facts where
  bcast_S_S4096x128 := by decide

/-- The side condition of the precondition on the whole array. -/
theorem pre_whole_facts : Cert.Pre_x_not_lowest_ReferenceIdeal.Facts where
  bcast_S_S4096x4096 := by decide

/-- The precondition, read: no element of the block is the lowest word. -/
theorem pre_read [Cert.Pre_x_not_lowest_KernelIdeal.Facts] (x : IVec ⟨2, ![4096, 128]⟩ 8) (w : IVec ⟨2, ![4096, 2048]⟩ 8)
    (a b : FVec Ideal ⟨1, ![1]⟩ .f32) (h : Cert.Pre_x_not_lowest_KernelIdeal.fn (F := Ideal) x w a b = fun _ => 1#1)
    (i : (⟨2, ![4096, 128]⟩ : Shape).Idx) : x i ≠ 128#8 := by
  have hi := congrFun h i
  simp only [Cert.Pre_x_not_lowest_KernelIdeal.fn, cmpi, broadcastInDim, constantI] at hi
  exact IntOp.cmpi_ne.mp hi

/-- From memories that hold the same operands, `x` free of the lowest word, the devices' results are the blocks of rows of
    the reference's result. -/
theorem equal : Cert.algebraic_KernelIdeal_ReferenceIdeal_pre_x_not_lowest_KernelIdeal (hKernelIdeal := Cert.KernelIdeal.Gen.facts)
    (hReferenceIdeal := Cert.ReferenceIdeal.Gen.facts) (hPre_x_not_lowest_KernelIdeal := pre_block_facts) := by
  intro m ρ m' ρ' hpre hin
  have hp : ∀ (d : Dev Cert.KernelIdeal.nD) (i : Cert.KernelIdeal.S4096x128.Idx),
      (m ((d.tc : Thread Cert.KernelIdeal.nD Cert.KernelIdeal.τ).loc Cert.KernelIdeal.main_arg0) : IVec Cert.KernelIdeal.S4096x128 8) i ≠ 128#8 :=
    fun d i => @pre_read pre_block_facts _ _ _ _ (hpre d) i
  refine ⟨_, (θ_run (Cert.KernelIdeal.defs (F := Ideal)) _ _).mono (fun r h c => ⟨(h.1 c).1.trans ?_, (h.1 c).2⟩) (run_main (F := Ideal) m ρ),
    (θ_run (Cert.ReferenceIdeal.defs (F := Ideal)) _ _).mono (fun r h => h.1 0) (run_ref m' ρ')⟩
  have key : ∀ (x : Fin 128) (y : Fin 2048), outAt m ρ c (ix2 x y) = refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) (ix2 (bigRow c x) y) := fun x y => by
    rw [out_value m ρ _ _ (fun c => (hin c).1) (fun c => (hin c).2.1) hp, (hin c).2.2.1, (hin c).2.2.2]
    exact (refOut_apply _ _ _ _ (bigRow c x) y).symm
  refine funext fun (j : (⟨2, ![128, 2048]⟩ : Shape).Idx) => ?_
  refine ((congrArg (outAt m ρ c) (eq_ix2 j)).trans (key (j 0) (j 1))).trans (congrArg _ (funext fun a => Fin.ext ?_))
  match a with
  | ⟨0, _⟩ => show 128 * c.val + (j 0).val = c.val * 128 + (j 0).val; omega
  | ⟨1, _⟩ => rfl

end Cert.AllToAll

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim: the three frames, the idealization, and the kernel's results against the reference's. -/
theorem claim : Cert.Claim :=
  ⟨Cert.Kernel.Gen.facts, Cert.KernelIdeal.Gen.facts, Cert.ReferenceIdeal.Gen.facts, Cert.AllToAll.pre_block_facts,
    Cert.AllToAll.pre_whole_facts, Cert.AllToAll.frame_kernel, Cert.AllToAll.frame_ideal,
    fun m ρ _ => Cert.AllToAll.frame_ideal m ρ trivial, Cert.AllToAll.frame_ref,
    fun m ρ _ => Cert.AllToAll.frame_ref m ρ trivial, trivial, Cert.AllToAll.equal⟩

end Cert.Proof

end
